-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.BufferStatement Cert.KernelIdeal.S224x2x512 Cert.KernelIdeal.S224x1x512
  ∧ IdealRules.bf16_pair.HalfStatement Cert.KernelIdeal.S224x512
  ∧ IdealRules.bf16_pair.Statement Cert.KernelIdeal.S224x2x512 Cert.KernelIdeal.S224x1x512
  ∧ IdealRules.bf16_pair.Statement Cert.KernelIdeal.S1x2x512 Cert.KernelIdeal.S1x1x512
  ∧ IdealRules.bf16_pair.Statement Cert.KernelIdeal.S16x512 Cert.KernelIdeal.S8x512

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S192x1x7168 : Shape := ⟨3, ![192, 1, 7168]⟩
abbrev S16000x3584 : Shape := ⟨2, ![16000, 3584]⟩
abbrev S16000x224 : Shape := ⟨2, ![16000, 224]⟩
abbrev S192x7168 : Shape := ⟨2, ![192, 7168]⟩
abbrev S192x1 : Shape := ⟨2, ![192, 1]⟩
abbrev S512x3584 : Shape := ⟨2, ![512, 3584]⟩
abbrev S512x224 : Shape := ⟨2, ![512, 224]⟩
abbrev S224x512 : Shape := ⟨2, ![224, 512]⟩
abbrev S7168x512 : Shape := ⟨2, ![7168, 512]⟩
abbrev S192x128 : Shape := ⟨2, ![192, 128]⟩
abbrev S16x128 : Shape := ⟨2, ![16, 128]⟩
abbrev S16x128x1 : Shape := ⟨3, ![16, 128, 1]⟩
abbrev S512x128 : Shape := ⟨2, ![512, 128]⟩
abbrev S128x512 : Shape := ⟨2, ![128, 512]⟩
abbrev S32x512 : Shape := ⟨2, ![32, 512]⟩
abbrev S32x1x512 : Shape := ⟨3, ![32, 1, 512]⟩
abbrev S32x8x512 : Shape := ⟨3, ![32, 8, 512]⟩
abbrev S256x512 : Shape := ⟨2, ![256, 512]⟩
abbrev S1x512 : Shape := ⟨2, ![1, 512]⟩
abbrev S8x512 : Shape := ⟨2, ![8, 512]⟩
abbrev S16x512 : Shape := ⟨2, ![16, 512]⟩
abbrev S192x512 : Shape := ⟨2, ![192, 512]⟩
abbrev S192 : Shape := ⟨1, ![192]⟩

abbrev nBuf : Space → Nat
  | .hbm => 7
  | .vmem => 14
  | .smem => 0
  | _ => 0

abbrev bufTy : (tb : Table) → Fin (tcTables nBuf tb) → BufTy
  | .hbm, ⟨0, _⟩ => ⟨S192x1x7168, .bf16⟩
  | .hbm, ⟨1, _⟩ => ⟨S16000x3584, .i8⟩
  | .hbm, ⟨2, _⟩ => ⟨S16000x224, .bf16⟩
  | .hbm, ⟨3, _⟩ => ⟨S192x7168, .bf16⟩
  | .hbm, ⟨4, _⟩ => ⟨S192x1, .i32⟩
  | .hbm, ⟨5, _⟩ => ⟨S192x1, .f32⟩
  | .hbm, ⟨6, _⟩ => ⟨S192x1, .f32⟩
  | .local _ .vmem, ⟨0, _⟩ => ⟨S192x7168, .bf16⟩
  | .local _ .vmem, ⟨1, _⟩ => ⟨S512x3584, .i8⟩
  | .local _ .vmem, ⟨2, _⟩ => ⟨S512x3584, .i8⟩
  | .local _ .vmem, ⟨3, _⟩ => ⟨S512x224, .bf16⟩
  | .local _ .vmem, ⟨4, _⟩ => ⟨S512x224, .bf16⟩
  | .local _ .vmem, ⟨5, _⟩ => ⟨S192x1, .i32⟩
  | .local _ .vmem, ⟨6, _⟩ => ⟨S192x1, .f32⟩
  | .local _ .vmem, ⟨7, _⟩ => ⟨S192x1, .f32⟩
  | .local _ .vmem, ⟨8, _⟩ => ⟨S192x7168, .bf16⟩
  | .local _ .vmem, ⟨9, _⟩ => ⟨S224x512, .i32⟩
  | .local _ .vmem, ⟨10, _⟩ => ⟨S7168x512, .bf16⟩
  | .local _ .vmem, ⟨11, _⟩ => ⟨S192x128, .f32⟩
  | .local _ .vmem, ⟨12, _⟩ => ⟨S192x128, .f32⟩
  | .local _ .vmem, ⟨13, _⟩ => ⟨S192x128, .i32⟩
  | _, _ => ⟨S192x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [BitOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v3497 : BitVec 1 := Scalar.cmpi .eq arg0 c31_i32
  let v3498 : BitVec 32 := Scalar.extui v3497
  let c0_i32_885 : BitVec 32 := 0#32
  let v3499 : BitVec 1 := Scalar.cmpi .ne v3498 c0_i32_885
  v3499

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S192x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x3584 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x224 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S192x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S192x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S192x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
abbrev S224x2x512 : Shape := ⟨3, ![224, 2, 512]⟩
abbrev S224x1x512 : Shape := ⟨3, ![224, 1, 512]⟩
abbrev S1x2x512 : Shape := ⟨3, ![1, 2, 512]⟩
abbrev S1x1x512 : Shape := ⟨3, ![1, 1, 512]⟩
  | .local _ .vmem, ⟨9, _⟩ => ⟨S224x2x512, .bf16⟩
variable {F : FTy → Type} [FloatOps F]
-- ==== ReferenceIdeal.lean ====
abbrev S192x1x7168 : Shape := ⟨3, ![192, 1, 7168]⟩
abbrev S16000x3584 : Shape := ⟨2, ![16000, 3584]⟩
abbrev S16000x224 : Shape := ⟨2, ![16000, 224]⟩
abbrev S16000x224x16 : Shape := ⟨3, ![16000, 224, 16]⟩
abbrev S_ : Shape := ⟨0, ![]⟩
abbrev S16000x224x1 : Shape := ⟨3, ![16000, 224, 1]⟩
abbrev S192x1x224x32 : Shape := ⟨4, ![192, 1, 224, 32]⟩
abbrev S192x1x224x16 : Shape := ⟨4, ![192, 1, 224, 16]⟩
abbrev S192x1x16000 : Shape := ⟨3, ![192, 1, 16000]⟩
abbrev S192x1 : Shape := ⟨2, ![192, 1]⟩
abbrev S192x1x2 : Shape := ⟨3, ![192, 1, 2]⟩
abbrev S192x1x1 : Shape := ⟨3, ![192, 1, 1]⟩

abbrev nBuf : Space → Nat
  | .hbm => 43
  | .vmem => 0
  | .smem => 0
  | _ => 0

abbrev bufTy : (tb : Table) → Fin (tcTables nBuf tb) → BufTy
  | .hbm, ⟨0, _⟩ => ⟨S192x1x7168, .bf16⟩
  | .hbm, ⟨1, _⟩ => ⟨S16000x3584, .i8⟩
  | .hbm, ⟨2, _⟩ => ⟨S16000x224, .bf16⟩
  | .hbm, ⟨3, _⟩ => ⟨S16000x224x16, .i8⟩
  | .hbm, ⟨4, _⟩ => ⟨S16000x224x16, .i32⟩
  | .hbm, ⟨5, _⟩ => ⟨S_, .i32⟩
  | .hbm, ⟨6, _⟩ => ⟨S16000x224x16, .i32⟩
  | .hbm, ⟨7, _⟩ => ⟨S16000x224x16, .i32⟩
  | .hbm, ⟨8, _⟩ => ⟨S_, .i32⟩
  | .hbm, ⟨9, _⟩ => ⟨S16000x224x16, .i32⟩
  | .hbm, ⟨10, _⟩ => ⟨S16000x224x16, .i32⟩
  | .hbm, ⟨11, _⟩ => ⟨S16000x224x16, .bf16⟩
  | .hbm, ⟨12, _⟩ => ⟨S16000x224x1, .bf16⟩
  | .hbm, ⟨13, _⟩ => ⟨S16000x224x16, .bf16⟩
  | .hbm, ⟨14, _⟩ => ⟨S16000x224x16, .bf16⟩
  | .hbm, ⟨15, _⟩ => ⟨S_, .i32⟩
  | .hbm, ⟨16, _⟩ => ⟨S16000x224x16, .i32⟩
  | .hbm, ⟨17, _⟩ => ⟨S16000x224x16, .i32⟩
  | .hbm, ⟨18, _⟩ => ⟨S_, .i32⟩
  | .hbm, ⟨19, _⟩ => ⟨S16000x224x16, .i32⟩
  | .hbm, ⟨20, _⟩ => ⟨S16000x224x16, .i32⟩
  | .hbm, ⟨21, _⟩ => ⟨S16000x224x16, .bf16⟩
  | .hbm, ⟨22, _⟩ => ⟨S16000x224x1, .bf16⟩
  | .hbm, ⟨23, _⟩ => ⟨S16000x224x16, .bf16⟩
  | .hbm, ⟨24, _⟩ => ⟨S16000x224x16, .bf16⟩
  | .hbm, ⟨25, _⟩ => ⟨S192x1x224x32, .bf16⟩
  | .hbm, ⟨26, _⟩ => ⟨S192x1x224x16, .bf16⟩
  | .hbm, ⟨27, _⟩ => ⟨S192x1x16000, .f32⟩
  | .hbm, ⟨28, _⟩ => ⟨S192x1x224x16, .bf16⟩
  | .hbm, ⟨29, _⟩ => ⟨S192x1x16000, .f32⟩
  | .hbm, ⟨30, _⟩ => ⟨S192x1x16000, .f32⟩
  | .hbm, ⟨31, _⟩ => ⟨S192x1x16000, .i32⟩
  | .hbm, ⟨32, _⟩ => ⟨S_, .f32⟩
  | .hbm, ⟨33, _⟩ => ⟨S_, .i32⟩
  | .hbm, ⟨34, _⟩ => ⟨S192x1, .f32⟩
  | .hbm, ⟨35, _⟩ => ⟨S192x1, .i32⟩
  | .hbm, ⟨36, _⟩ => ⟨S192x1x2, .f32⟩
  | .hbm, ⟨37, _⟩ => ⟨S192x1x2, .i32⟩
  | .hbm, ⟨38, _⟩ => ⟨S192x1x1, .f32⟩
  | .hbm, ⟨39, _⟩ => ⟨S192x1, .f32⟩
  | .hbm, ⟨40, _⟩ => ⟨S192x1x1, .f32⟩
  | .hbm, ⟨41, _⟩ => ⟨S192x1, .f32⟩
  | .hbm, ⟨42, _⟩ => ⟨S192x1, .f32⟩
  | _, _ => ⟨S192x1x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_call0_v0 : Ref sig .tc := ⟨.hbm, 31, rfl⟩
abbrev main_call0_cst : Ref sig .tc := ⟨.hbm, 32, rfl⟩
abbrev main_call0_c : Ref sig .tc := ⟨.hbm, 33, rfl⟩
abbrev main_call0_v1_0 : Ref sig .tc := ⟨.hbm, 34, rfl⟩
abbrev main_v24 : Ref sig .tc := ⟨.hbm, 35, rfl⟩
abbrev main_values : Ref sig .tc := ⟨.hbm, 36, rfl⟩
abbrev main_indices : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Proof.K.Run.lean ====
/-
  The body of the program as printed, run once at symbolic operands at any point of the grid.
-/
module

public import proofs.«01_k».proof.Proof.Gen.Kernel.Frame
public import proofs.«01_k».proof.Proof.Gen.Kernel.Skeleton
public import Idealize.ShloMosaic.Lib.Tactic

@[expose] public section

set_option maxRecDepth 16384

noncomputable section

namespace Cert.K

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

/-- The contents of a memory reference's buffer on core `c`. -/
abbrev Bf (c : Dev nD) {sp : Space} {S : Shape} {e : EltTy} (M : Memref sig .tc sp S e) : Type :=
  Buf (Elt F) (M.view.loc (c : Thread nD τ))

/-- The buffer of a memory reference on core `c`, held whole at contents `f`. -/
abbrev pt (c : Dev nD) {sp : Space} {S : Shape} {e : EltTy} (M : Memref sig .tc sp S e) (f : Bf (F := F) c M) : sProp 𝕄 :=
  M.view.loc (c : Thread nD τ) ↦{fullShare} f

/-- At any point of the grid the body runs to its return from its twelve buffers held whole, faults nowhere, and
    hands them back: the three it reads as they were, the nine others at some contents. -/
theorem body_run (c : Dev nD) (i : grid0.Coords)
    (M1 : Memref sig .tc .vmem S192x7168 .bf16) (h1 : M1.IsWhole) (M2 : Memref sig .tc .vmem S512x3584 .i8) (h2 : M2.IsWhole) (M3 : Memref sig .tc .vmem S512x224 .bf16) (h3 : M3.IsWhole) (M4 : Memref sig .tc .vmem S192x1 .i32) (h4 : M4.IsWhole) (M5 : Memref sig .tc .vmem S192x1 .f32) (h5 : M5.IsWhole) (M6 : Memref sig .tc .vmem S192x1 .f32) (h6 : M6.IsWhole) (M7 : Memref sig .tc .vmem S192x7168 .bf16) (h7 : M7.IsWhole) (M8 : Memref sig .tc .vmem S224x512 .i32) (h8 : M8.IsWhole) (M9 : Memref sig .tc .vmem S7168x512 .bf16) (h9 : M9.IsWhole) (M10 : Memref sig .tc .vmem S192x128 .f32) (h10 : M10.IsWhole) (M11 : Memref sig .tc .vmem S192x128 .f32) (h11 : M11.IsWhole) (M12 : Memref sig .tc .vmem S192x128 .i32) (h12 : M12.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (E : Set ℕ) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12
      ∗ (iprop(pt c M1 f1 ∗ pt c M2 f2 ∗ pt c M3 f3 ∗ (∃ f, pt c M4 f) ∗ (∃ f, pt c M5 f) ∗ (∃ f, pt c M6 f) ∗ (∃ f, pt c M7 f) ∗ (∃ f, pt c M8 f) ∗ (∃ f, pt c M9 f) ∗ (∃ f, pt c M10 f) ∗ (∃ f, pt c M11 f) ∗ (∃ f, pt c M12 f)) -∗ Q ⟨⟩))
    ⊢ wp frame (wpE (defs₀ (F := F)) Variants.none c none) E (cc0_q4_head i M1 h1 M2 h2 M3 h3 M4 h4 M5 h5 M6 h6 M7 h7 M8 h8 M9 h9 M10 h10 M11 h11 M12 h12) Q := by
  iintro ⟨H1, H2, H3, H4, H5, H6, H7, H8, H9, H10, H11, H12, Hk⟩
  sl_unfold [cc0_q4_head]
  sl_exec_parts!
  sl_step
  iapply Hk
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  iexists _; iexact H12

end Cert.K

end
-- ==== Proof.K.Frame.lean ====
/-
  The frame of the program as printed: every weakly fair execution of @main ends, nothing faults, the argument arrays
  end as they began and every semaphore counter ends at zero. Nothing is said here of what the results hold: the three
  output windows are forgotten, and the scratch buffers are held at some contents between the points of the grid.
-/
module

public import proofs.«01_k».proof.Proof.K.Run
public import Idealize.ShloMosaic.Lib.Pipeline.KitQuiescent

@[expose] public section

set_option maxRecDepth 16384

noncomputable section

namespace Cert.K

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [BitOps F]

local notation "𝕄" => MT nD τ sig Unit (Elt F) ℕ (UR sig nD τ) ℕ

/-- The proof's resource algebra: one copy of the pipeline's. -/
abbrev EP : Emb (UR sig nD τ) (MT nD τ sig Unit (Elt F) ℕ (UR sig nD τ) ℕ) := emb₁

/-- The kernel's variants: none. -/
abbrev 𝒱₀ : Variants := Variants.none

variable (m : (ℓ : Loc nD τ sig) → Buf (Elt F) ℓ) (ρ : Dev nD → PrngReg)

omit [BitOps F] in
/-- Owning a whole memory reference at contents `X` is holding its buffer whole at contents that read as `X`. -/
theorem owns_eq_pt (c : Dev nD) {sp : Space} {S : Shape} {e : EltTy} {M : Memref sig .tc sp S e} (h : M.IsWhole)
    (X : S.Idx → Elt F e) :
    (owns (Ix := Unit) (Name := ℕ) (U := UR sig nD τ) (Lvl := ℕ) (c : Thread nD τ) M fullShare X : sProp 𝕄)
      = iprop(∃ f : Bf (F := F) c M, ⌜M.view.read (Elt F) f = X⌝ ∗ pt c M f) := by
  obtain ⟨b, hsp, hsh, he, h⟩ := h
  subst hsp hsh he
  cases h
  unfold owns; simp only [Memref.view_whole, View.read_whole, View.set_whole]

/-- `body_run` with the six staged operands owned through their memory references. -/
theorem body_owns (c : Dev nD) (i : grid0.Coords)
    (M1 : Memref sig .tc .vmem S192x7168 .bf16) (h1 : M1.IsWhole) (M2 : Memref sig .tc .vmem S512x3584 .i8) (h2 : M2.IsWhole) (M3 : Memref sig .tc .vmem S512x224 .bf16) (h3 : M3.IsWhole) (M4 : Memref sig .tc .vmem S192x1 .i32) (h4 : M4.IsWhole) (M5 : Memref sig .tc .vmem S192x1 .f32) (h5 : M5.IsWhole) (M6 : Memref sig .tc .vmem S192x1 .f32) (h6 : M6.IsWhole) (M7 : Memref sig .tc .vmem S192x7168 .bf16) (h7 : M7.IsWhole) (M8 : Memref sig .tc .vmem S224x512 .i32) (h8 : M8.IsWhole) (M9 : Memref sig .tc .vmem S7168x512 .bf16) (h9 : M9.IsWhole) (M10 : Memref sig .tc .vmem S192x128 .f32) (h10 : M10.IsWhole) (M11 : Memref sig .tc .vmem S192x128 .f32) (h11 : M11.IsWhole) (M12 : Memref sig .tc .vmem S192x128 .i32) (h12 : M12.IsWhole)
    (X1 : S192x7168.Idx → Elt F .bf16) (X2 : S512x3584.Idx → Elt F .i8) (X3 : S512x224.Idx → Elt F .bf16) (X4 : S192x1.Idx → Elt F .i32) (X5 : S192x1.Idx → Elt F .f32) (X6 : S192x1.Idx → Elt F .f32) (f7 : Bf (F := F) c M7) (f8 : Bf (F := F) c M8) (f9 : Bf (F := F) c M9) (f10 : Bf (F := F) c M10) (f11 : Bf (F := F) c M11) (f12 : Bf (F := F) c M12)
    (E : Set ℕ) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ pt c M7 f7 ∗ pt c M8 f8 ∗ pt c M9 f9 ∗ pt c M10 f10 ∗ pt c M11 f11 ∗ pt c M12 f12
      ∗ (iprop(owns (c : Thread nD τ) M1 fullShare X1 ∗ owns (c : Thread nD τ) M2 fullShare X2 ∗ owns (c : Thread nD τ) M3 fullShare X3 ∗ (∃ X, owns (c : Thread nD τ) M4 fullShare X) ∗ (∃ X, owns (c : Thread nD τ) M5 fullShare X) ∗ (∃ X, owns (c : Thread nD τ) M6 fullShare X) ∗ (∃ f, pt c M7 f) ∗ (∃ f, pt c M8 f) ∗ (∃ f, pt c M9 f) ∗ (∃ f, pt c M10 f) ∗ (∃ f, pt c M11 f) ∗ (∃ f, pt c M12 f)) -∗ Q ⟨⟩))
    ⊢ wp frame (wpE (defs₀ (F := F)) Variants.none c none) E (cc0_q4_head i M1 h1 M2 h2 M3 h3 M4 h4 M5 h5 M6 h6 M7 h7 M8 h8 M9 h9 M10 h10 M11 h11 M12 h12) Q := by
  simp only [owns_eq_pt c h1, owns_eq_pt c h2, owns_eq_pt c h3, owns_eq_pt c h4, owns_eq_pt c h5, owns_eq_pt c h6]
  iintro ⟨⟨%f1, %e1, H1⟩, ⟨%f2, %e2, H2⟩, ⟨%f3, %e3, H3⟩, ⟨%f4, %e4, H4⟩, ⟨%f5, %e5, H5⟩, ⟨%f6, %e6, H6⟩, H7, H8, H9, H10, H11, H12, Hk⟩
  iapply (body_run c i M1 h1 M2 h2 M3 h3 M4 h4 M5 h5 M6 h6 M7 h7 M8 h8 M9 h9 M10 h10 M11 h11 M12 h12 f1 f2 f3 f4 f5 f6 f7 f8 f9 f10 f11 f12 E Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H1, H2, H3, ⟨%g4, H4⟩, ⟨%g5, H5⟩, ⟨%g6, H6⟩, H7, H8, H9, H10, H11, H12⟩
  iapply Hk
  isplitl [H1]; · iexists f1; isplitr; (· ipureintro; exact e1); iexact H1
  isplitl [H2]; · iexists f2; isplitr; (· ipureintro; exact e2); iexact H2
  isplitl [H3]; · iexists f3; isplitr; (· ipureintro; exact e3); iexact H3
  isplitl [H4]; · iexists M4.view.read (Elt F) g4; iexists g4; isplitr; (· ipureintro; rfl); iexact H4
  isplitl [H5]; · iexists M5.view.read (Elt F) g5; iexists g5; isplitr; (· ipureintro; rfl); iexact H5
  isplitl [H6]; · iexists M6.view.read (Elt F) g6; iexists g6; isplitr; (· ipureintro; rfl); iexact H6
  isplitl [H7]; · iexact H7
  isplitl [H8]; · iexact H8
  isplitl [H9]; · iexact H9
  isplitl [H10]; · iexact H10
  isplitl [H11]; · iexact H11
  iexact H12

/-- The proof data: the arrays as the region finds them; after the body an input window's buffer holds its block, past
    the array's end an arbitrary word; the scratch buffers at some contents; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => 0#8) (iblk m c 1 t)
    | ⟨2, _⟩ => win0_2.fill (grid0.coords t) (fun _ => Scalar.ofBits .bf16 0#16) (iblk m c 2 t)
    | ⟨3, _⟩ => fun _ => 0#32
    | ⟨4, _⟩ => fun _ => Scalar.ofBits .f32 0#32
    | ⟨5, _⟩ => fun _ => Scalar.ofBits .f32 0#32
  Φ _ := Pipeline.scopedRest spec0 c
  q _ := fullShare
  owed _ := 0

/-- The windows of which the proof says nothing: the three outputs. -/
def fgt : Fin cfg0.W → Bool := fun | 0 => false | 1 => false | 2 => false | 3 => true | 4 => true | 5 => true

/-- The body at a point finds the input windows' buffers at their blocks (the two clipped ones at arbitrary words past
    the array's end) and leaves them so. -/
theorem body_obligation (c : Dev nD) : BodyObligationLoose (dats m 0 c) (defs₀ (F := F)) 𝒱₀ () Set.univ fgt := fun t => by
  rw [bigSep_W0, bigSep_W0]
  simp only [fgt]
  rw [show (dats m 0 c).Φ t.succ = (dats m 0 c).Φ t.castSucc from rfl,
    show (dats m 0 c).owesAt () t.succ = (dats m 0 c).owesAt () t.castSucc from rfl,
    show (dats m 0 c).Φ t.castSucc = Pipeline.scopedRest spec0 c from rfl, scopedRest0_eq]
  iintro ⟨⟨⟨%g7, H7⟩, ⟨%g8, H8⟩, ⟨%g9, H9⟩, ⟨%g10, H10⟩, ⟨%g11, H11⟩, ⟨%g12, H12⟩⟩, Ho, ⟨%d0, H0⟩, ⟨%d1, H1⟩, ⟨%d2, H2⟩, ⟨%X3, H3⟩, ⟨%X4, H4⟩, ⟨%X5, H5⟩⟩
  have h0 : (dats m 0 c).before (0 : Fin 6) t d0 = iblk m c 0 t := before0_0_of m (dats m 0 c) rfl (fun _ => rfl) t d0
  have h1 : (dats m 0 c).before (1 : Fin 6) t d1 = win0_1.fill (grid0.coords t) d1 (iblk m c 1 t) := by
    unfold Dat.before; rw [if_pos (fetch0_1 t)]; rfl
  have h2 : (dats m 0 c).before (2 : Fin 6) t d2 = win0_2.fill (grid0.coords t) d2 (iblk m c 2 t) := by
    unfold Dat.before; rw [if_pos (fetch0_2 t)]; rfl
  rw [h0, h1, h2]
  iapply (body_owns (F := F) c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (iblk m c 0 t) (win0_1.fill (grid0.coords t) d1 (iblk m c 1 t)) (win0_2.fill (grid0.coords t) d2 (iblk m c 2 t)) X3 X4 X5
    g7 g8 g9 g10 g11 g12 Set.univ _)
  isplitl [H0]; · iexact H0
  isplitl [H1]; · iexact H1
  isplitl [H2]; · iexact H2
  isplitl [H3]; · iexact H3
  isplitl [H4]; · iexact H4
  isplitl [H5]; · iexact H5
  isplitl [H7]; · iexact H7
  isplitl [H8]; · iexact H8
  isplitl [H9]; · iexact H9
  isplitl [H10]; · iexact H10
  isplitl [H11]; · iexact H11
  isplitl [H12]; · iexact H12
  iintro ⟨H0, H1, H2, H3, H4, H5, H7, H8, H9, H10, H11, H12⟩
  isplitl [H7 H8 H9 H10 H11 H12]
  · isplitl [H7]; · iexact H7
    isplitl [H8]; · iexact H8
    isplitl [H9]; · iexact H9
    isplitl [H10]; · iexact H10
    isplitl [H11]; · iexact H11
    iexact H12
  isplitl [Ho]; · iexact Ho
  isplitl [H0]; · iexact H0
  isplitl [H1]
  · iexists d1
    change _ ⊢ owns (c : Thread nD τ) (stage0_1 (cfg0.slots t 1)) fullShare (win0_1.fill (grid0.coords t) d1 (win0_1.cut (grid0.coords t) (win0_1.fill (grid0.coords t) (fun _ => 0#8) (iblk m c 1 t))))
    rw [win0_1.cut_fill]
  isplitl [H2]
  · iexists d2
    change _ ⊢ owns (c : Thread nD τ) (stage0_2 (cfg0.slots t 2)) fullShare (win0_2.fill (grid0.coords t) d2 (win0_2.cut (grid0.coords t) (win0_2.fill (grid0.coords t) (fun _ => Scalar.ofBits .bf16 0#16) (iblk m c 2 t))))
    rw [win0_2.cut_fill]
  isplitl [H3]; · iexact H3
  isplitl [H4]; · iexact H4
  iexact H5

omit [BitOps F] in
/-- A buffer held whole, read against the memory: the memory holds its contents. -/
theorem pointsTo_keep (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  icombine HSI H gives %h
  isplitr
  · ipureintro; exact funext fun i => h i (Finset.mem_univ i)
  iexact HSI

/-- The launch element: every staging cell's owner and a duty token for every transfer the pipeline issues. -/
def u₀ : UR sig nD τ := initOf (Pipeline.cells cfgs launch0.cellOf_inj) (Pipeline.launchToks cfgs launch0.cellOf_inj)

set_option backward.isDefEq.respectTransparency.types false in
/-- At the compiled mesh, from any memory with zero counters: every weakly fair execution of @main on the TensorCores
    terminates, and every final state has the argument arrays unchanged and every semaphore counter at zero. -/
theorem frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  Pipeline.θ_run_region_kit_forget_quiescent cfgs (dats m) () (0 : Fin 1) launch0 (Pipeline.OwnSemFacts.none _) EP defs₀ 𝒱₀ (fgt := fgt) m ρ main
    (hbody := body_obligation m)
    (hshare := fun c => (dats m 0 c).share_full fun _ => rfl) (howed := fun _ _ => rfl)
    (G := fun _ => iprop(emp)) (u₀ := u₀)
    (hu₀ := by
      iintro Hu; imodintro
      isplitl [Hu]; · iapply (show (ownU u₀ : sProp 𝕄) ⊢ BI.own (EP (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m 𝒱₀) (hA := fun _ _ => rfl)
    (X := fun _ => iprop(emp)) (Y := fun _ => iprop(emp))
    (Z := fun c => iprop(((c : Thread nD τ).loc main_arg0) ↦{fullShare} V m c main_arg0))
    (hX := fun c => by
      rw [unscopedRest0_eq]
      iintro ⟨HZ, -⟩; imodintro
      isplitr; · iempintro
      iexact HZ)
    (hin := fun c => by
      rw [show (dats m 0 c).Φ 0 = Pipeline.scopedRest spec0 c from rfl]
      iintro ⟨-, H⟩; iexact H)
    (hout := fun c => by
      rw [Pipeline.ownSems0_none, show (dats m 0 c).Φ (Fin.last cfg0.N) = Pipeline.scopedRest spec0 c from rfl]
      iintro H
      isplitr; · iempintro
      isplitr; · iempintro
      iexact H)
    (QY := fun c s => s.mem ((c : Thread nD τ).loc main_arg0) = V m c main_arg0)
    (hY := fun c s' => by
      iintro ⟨-, HZ, HSI⟩; imodintro
      ihave ⟨%h, HSI⟩ := (pointsTo_keep (F := F) ((c : Thread nD τ).loc main_arg0) (V m c main_arg0) s') $$ [HZ HSI]
      · isplitl [HZ]; · iexact HZ
        iexact HSI
      isplitr; · ipureintro; exact h
      iexact HSI)
    (hQ := fun s h hz => ⟨fun c => ⟨((h c).2).trans (V_main_arg0 m c),
      (((dats m 0 c).toRForget_arrAt_iff (w := 1) rfl cfg0.N _).mp ((h c).1 1)).trans (((dats m 0 c).arrAt_in 1 rfl _).trans (V_main_arg1 m c)),
      (((dats m 0 c).toRForget_arrAt_iff (w := 2) rfl cfg0.N _).mp ((h c).1 2)).trans (((dats m 0 c).arrAt_in 2 rfl _).trans (V_main_arg2 m c))⟩, hz⟩)

end Cert.K

end
-- ==== Proof.KI.Base.lean ====
/-
  Shared notation of the kernel's proofs: a buffer's contents on a core, and the buffer held whole at given contents.
-/
module

public import proofs.«01_k».proof.Proof.Gen.KernelIdeal.Frame

@[expose] public section

noncomputable section

namespace Cert.KI

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.Sem
open Idealize.ShloMosaic.Rounds

variable {F : FTy → Type} [FloatOps F]

local notation "𝕄" => MT nD τ sig Unit (Elt F) ℕ (UR sig nD τ) ℕ

/-- The contents of a memory reference's buffer on core `c`. -/
abbrev Bf (c : Dev nD) {sp : Space} {S : Shape} {e : EltTy} (M : Memref sig .tc sp S e) : Type :=
  Buf (Elt F) (M.view.loc (c : Thread nD τ))

/-- The buffer of a memory reference on core `c`, held whole at contents `f`. -/
abbrev pt (c : Dev nD) {sp : Space} {S : Shape} {e : EltTy} (M : Memref sig .tc sp S e) (f : Bf (F := F) c M) : sProp 𝕄 :=
  M.view.loc (c : Thread nD τ) ↦{fullShare} f

/-- The condition of the body's first `if`: whether the point is the grid's first one. -/
abbrev cond1 (i : grid0.Coords) : BitVec 1 :=
  Scalar.cmpi .ne (Scalar.extui (Scalar.cmpi .eq (BitVec.ofNat 32 (i 0).val) 0#32) : BitVec 32) 0#32

end Cert.KI

end
-- ==== Proof.KI.RunFirst.lean ====
/-
  The kernel body of `KernelIdeal` run once, at symbolic operands, at the first point of the grid.
-/
module

public import proofs.«01_k».proof.Proof.Gen.KernelIdeal.Frame
public import proofs.«01_k».proof.Proof.Gen.KernelIdeal.Skeleton
public import proofs.«01_k».proof.Proof.KI.Base
public import Idealize.ShloMosaic.Lib.Tactic

@[expose] public section

set_option maxRecDepth 16384

noncomputable section

namespace Cert.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What the body leaves in the buffers it writes at the first point, with the proof that it runs to its return from the
    twelve buffers held whole and hands them back, the written ones at those contents. -/
def runFirst (c : Dev nD) (i : grid0.Coords) (hc1 : cond1 i = 1#1) (hc2 : ¬ k0_cond2 i = 1#1)
    (M1 : Memref sig .tc .vmem S192x7168 .bf16) (h1 : M1.IsWhole) (M2 : Memref sig .tc .vmem S512x3584 .i8) (h2 : M2.IsWhole) (M3 : Memref sig .tc .vmem S512x224 .bf16) (h3 : M3.IsWhole) (M4 : Memref sig .tc .vmem S192x1 .i32) (h4 : M4.IsWhole) (M5 : Memref sig .tc .vmem S192x1 .f32) (h5 : M5.IsWhole) (M6 : Memref sig .tc .vmem S192x1 .f32) (h6 : M6.IsWhole) (M7 : Memref sig .tc .vmem S192x7168 .bf16) (h7 : M7.IsWhole) (M8 : Memref sig .tc .vmem S224x2x512 .bf16) (h8 : M8.IsWhole) (M9 : Memref sig .tc .vmem S7168x512 .bf16) (h9 : M9.IsWhole) (M10 : Memref sig .tc .vmem S192x128 .f32) (h10 : M10.IsWhole) (M11 : Memref sig .tc .vmem S192x128 .f32) (h11 : M11.IsWhole) (M12 : Memref sig .tc .vmem S192x128 .i32) (h12 : M12.IsWhole)
    (f1 : Bf (F := F) c M1) (f2 : Bf (F := F) c M2) (f3 : Bf (F := F) c M3) :
    { W : Bf (F := F) c M7 × Bf (F := F) c M10 × Bf (F := F) c M11 × Bf (F := F) c M12 //
      ∀ (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12
          ∗ (iprop(pt c M1 f1 ∗ pt c M2 f2 ∗ pt c M3 f3 ∗ pt c M4 f4 ∗ pt c M5 f5 ∗ pt c M6 f6 ∗ pt c M7 (W.1) ∗ (∃ f, pt c M8 f) ∗ (∃ f, pt c M9 f) ∗ pt c M10 (W.2.1) ∗ pt c M11 (W.2.2.1) ∗ pt c M12 (W.2.2.2)) -∗ Q ⟨⟩))
        ⊢ wp frame (wpE (defs₀ (F := F)) Variants.none c none) E (cc0_q4_head i M1 h1 M2 h2 M3 h3 M4 h4 M5 h5 M6 h6 M7 h7 M8 h8 M9 h9 M10 h10 M11 h11 M12 h12) Q } := by
  refine ⟨⟨?_, ?_, ?_, ?_⟩, fun f4 f5 f6 f7 f8 f9 f10 f11 f12 E Q => ?run⟩
  case run =>
    iintro ⟨H1, H2, H3, H4, H5, H6, H7, H8, H9, H10, H11, H12, Hk⟩
    sl_unfold [cc0_q4_head]
    sl_exec_parts! (disch := first | exact hc1 | exact hc2)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    isplitl [H11]; · iexact H11
    iexact H12

end Cert.KI

end
-- ==== Proof.KI.Pieces.lean ====
/-
  The stores of the body that fill a scratch buffer piece by piece, in one shape: the dequantized weights are 448
  slabs of sixteen rows, the permuted activations 672 blocks of 16 by 128.
-/
module

public import proofs.«01_k».proof.Proof.Gen.KernelIdeal.Skeleton
public import proofs.«01_k».proof.Proof.KI.Base

@[expose] public section

set_option maxRecDepth 16384

noncomputable section

namespace Cert.KI

open Cert.KernelIdeal Cert.KernelIdeal.Gen
open Idealize.ShloMosaic

variable {F : FTy → Type} [FloatOps F]

/-- The list's pieces are, from its head on, the `n-1`-th, the `n-2`-th, …, the `0`-th of the family `P`. -/
def AllP {α : Type} (P : ℕ → α → Prop) : ℕ → List α → Prop
  | 0, L => L = []
  | _ + 1, [] => False
  | n + 1, p :: L => P n p ∧ AllP P n L

/-- Every piece of such a list is one of the family. -/
theorem AllP.forall {α : Type} {P : ℕ → α → Prop} : ∀ {n : ℕ} {L : List α}, AllP P n L → ∀ p ∈ L, ∃ k, k < n ∧ P k p
  | 0, _, h, p, hp => by rw [show _ = [] from h] at hp; exact absurd hp List.not_mem_nil
  | _ + 1, [], h, _, _ => h.elim
  | n + 1, q :: L, h, p, hp => by
    rcases List.mem_cons.mp hp with rfl | hp
    · exact ⟨n, Nat.lt_succ_self n, h.1⟩
    · obtain ⟨k, hk, h'⟩ := AllP.forall h.2 p hp
      exact ⟨k, Nat.lt_succ_of_lt hk, h'⟩

/-- Every member of the family below `n` is in such a list. -/
theorem AllP.mem {α : Type} {P : ℕ → α → Prop} : ∀ {n : ℕ} {L : List α}, AllP P n L → ∀ k, k < n → ∃ p ∈ L, P k p
  | 0, _, _, k, hk => absurd hk (Nat.not_lt_zero k)
  | _ + 1, [], h, _, _ => h.elim
  | n + 1, q :: L, h, k, hk => by
    rcases Nat.lt_succ_iff_lt_or_eq.mp hk with hk | rfl
    · obtain ⟨p, hp, h'⟩ := AllP.mem h.2 k hk
      exact ⟨p, List.mem_cons_of_mem _ hp, h'⟩
    · exact ⟨q, List.mem_cons_self, h.1⟩

/-- The `n`-th slab of the dequantized weights: sixteen rows of a block's codes times the group's scales. -/
def wCell (n : ℕ) (hs : S256x512.Slices ![16 * (n % 16), 0] S16x512) (q : FVec F S256x512 .bf16) (s : FVec F S16x512 .bf16) :
    FVec F S16x512 .bf16 :=
  shapeCast S16x512 (mulf (extractStridedSlice S16x512 ![16 * (n % 16), 0] q hs) s) shapeCasts_S16x512_S16x512

/-- The `n`-th store of the dequantized weights: rows `16 n` on, from block `n / 16` of the codes, whose columns `B`
    reads, and the scales of group `n / 2`, which `C` reads. -/
def GoodW (A : (r : Rect S512x3584) → (r.shape.Idx → Elt F .i8)) (C : (r : Rect S224x2x512) → (r.shape.Idx → Elt F .bf16))
    (n : ℕ) (p : View.Piece (Elt F) S7168x512 .bf16) : Prop :=
  ∃ h1 hs h2 h3, p = ⟨Rect.unit ![16 * n, 0] S16x512.size h1,
    wCell n hs (k0_pay996 (A (Rect.unit ![0, 128 * (n / 16)] S512x128.size h2)))
      (k0_pay997 (C (Rect.unit ![n / 2, 0, 0] S1x2x512.size h3)))⟩

/-- The `n`-th store of the permuted activations: the block of rows `16 (n / 56)` and columns `128 (n % 56)` on. -/
def GoodX (A : (r : Rect S192x7168) → (r.shape.Idx → Elt F .bf16)) (n : ℕ) (p : View.Piece (Elt F) S192x7168 .bf16) : Prop :=
  ∃ h1, p = ⟨Rect.unit ![16 * (n / 56), 128 * (n % 56)] S16x128.size h1,
    k0_pay6 (A (Rect.unit ![16 * (n / 56), 128 * (n % 56)] S16x128.size h1))⟩

end Cert.KI

end
-- ==== Proof.KI.ListFirst.lean ====
module

public import proofs.«01_k».proof.Proof.KI.RunFirst
public import proofs.«01_k».proof.Proof.KI.Pieces

@[expose] public section

set_option maxRecDepth 16384

noncomputable section

namespace Cert.KI

open Cert.KernelIdeal Cert.KernelIdeal.Gen
open Idealize.ShloMosaic
open Idealize.ShloMosaic.TcCoe

variable {F : FTy → Type} [FloatOps F]

/-- At the first point, each of the 448 stores to the weights' scratch is of the form the unpacking makes. -/
theorem wlist_first (c : Dev nD) (M2 : Memref sig .tc .vmem S512x3584 .i8) (M3 : Memref sig .tc .vmem S512x224 .bf16)
    (M8 : Memref sig .tc .vmem S224x2x512 .bf16) (f2 : Bf (F := F) c M2) (f3 : Bf (F := F) c M3) :
    AllP (GoodW (fun r => M2.view.readAt (Elt F) r.toLoadRect f2) (fun r => M8.view.readCov (runFirst.sl.H8_1 c M3 f3) r.toLoadRect)) 448
      (runFirst.sl.H9_448 c M2 M3 M8 f2 f3) := by
  iterate 448 refine ⟨⟨_, (by decide), _, _, rfl⟩, ?_⟩
  rfl

/-- Each of the 672 stores to the activations' scratch is of the form the permutation makes. -/
theorem xlist_first (c : Dev nD) (M1 : Memref sig .tc .vmem S192x7168 .bf16) (f1 : Bf (F := F) c M1) :
    AllP (GoodX (fun r => M1.view.readAt (Elt F) r.toLoadRect f1)) 672 (runFirst.sl.H7_672 c M1 f1) := by
  iterate 672 refine ⟨⟨_, rfl⟩, ?_⟩
  rfl

end Cert.KI

end
-- ==== Proof.KI.Spec.lean ====
/-
  What the body leaves in its scratch buffers, as functions of the blocks it loads: the permuted activations, the
  dequantized weights, and the three running buffers after the four column groups of one point.
-/
module

public import proofs.«01_k».proof.Proof.KI.Pieces
public import Idealize.ShloMosaic.Lib.VecWindow
public import Idealize.ShloMosaic.Lib.Writes
public import Idealize.ShloMosaic.Lib.Pipeline.Value
public import Idealize.ShloMosaic.Lib.ValueIdxCore

@[expose] public section

set_option maxRecDepth 16384

noncomputable section

namespace Cert.KI

open Cert.KernelIdeal Cert.KernelIdeal.Gen
open Idealize.ShloMosaic Idealize.ShloMosaic.ValueIdx

variable {F : FTy → Type} [FloatOps F]

/-- The permuted activations: each block of 16 rows and 128 columns permuted by `k0_pay6`. -/
def xpOf (X : S192x7168.Idx → Elt F .bf16) : S192x7168.Idx → Elt F .bf16 := fun y =>
  k0_pay6 (fun z : S16x128.Idx => X (ix2 ⟨16 * ((y 0).val / 16) + (z 0).val, by have := idx2_lt0 y; have := idx2_lt0 z; omega⟩
      ⟨128 * ((y 1).val / 128) + (z 1).val, by have := idx2_lt1 y; have := idx2_lt1 z; omega⟩))
    (ix2 ⟨(y 0).val % 16, Nat.mod_lt _ (by decide)⟩ ⟨(y 1).val % 128, Nat.mod_lt _ (by decide)⟩)

/-- The dequantized weights from the packed codes and the interleaved scales: row `k` is a code of block `k / 256`
    times the scale of group `k / 32`. -/
def wdOf (X : S512x3584.Idx → Elt F .i8) (S : S224x2x512.Idx → Elt F .bf16) : S7168x512.Idx → Elt F .bf16 := fun y =>
  FloatOps.mulf
    (k0_pay996 (fun z : S512x128.Idx => X (ix2 (z 0) ⟨128 * ((y 0).val / 256) + (z 1).val, by
        have := idx2_lt0 y; have := idx2_lt1 z; omega⟩))
      (ix2 ⟨(y 0).val % 256, Nat.mod_lt _ (by decide)⟩ (y 1)))
    (k0_pay997 (fun z : S1x2x512.Idx => S (ix3 ⟨(y 0).val / 32, by have := idx2_lt0 y; omega⟩ (z 1) (z 2)))
      (ix2 ⟨(y 0).val % 16, Nat.mod_lt _ (by decide)⟩ (y 1)))

/-- The largest value per lane after a point's four column groups. -/
def m1Of (a : BitVec 32) (xp : S192x7168.Idx → Elt F .bf16) (wd : S7168x512.Idx → Elt F .bf16) (m1 : S192x128.Idx → Elt F .f32) :
    S192x128.Idx → Elt F .f32 :=
  k0_pay1761 a (k0_pay1751 xp wd) (k0_pay1754 a xp wd m1) (k0_pay1756 a xp wd)

/-- The second largest value per lane after a point's four column groups. -/
def m2Of (a : BitVec 32) (xp : S192x7168.Idx → Elt F .bf16) (wd : S7168x512.Idx → Elt F .bf16) (m1 m2 : S192x128.Idx → Elt F .f32) :
    S192x128.Idx → Elt F .f32 :=
  k0_pay1762 a (k0_pay1751 xp wd) (k0_pay1753 a xp wd m1 m2) (k0_pay1754 a xp wd m1) (k0_pay1756 a xp wd)

/-- The column group of the largest value per lane after a point's four column groups. -/
def ixOf (a : BitVec 32) (xp : S192x7168.Idx → Elt F .bf16) (wd : S7168x512.Idx → Elt F .bf16) (m1 : S192x128.Idx → Elt F .f32)
    (ix : S192x128.Idx → Elt F .i32) : S192x128.Idx → Elt F .i32 :=
  k0_pay1763 a (k0_pay1751 xp wd) (k0_pay1754 a xp wd m1) (k0_pay1755 a xp wd m1 ix)
    (Scalar.addi (Scalar.muli a 4#32) 1#32) (k0_pay1756 a xp wd)

/-- After stores that are the 672 blocks of the permuted activations, the buffer reads as them. -/
theorem read_xlist {sp : Space} (v : View sig .tc sp S192x7168 .bf16) (f : v.ty.Contents (Elt F)) (X : S192x7168.Idx → Elt F .bf16)
    (A : (r : Rect S192x7168) → (r.shape.Idx → Elt F .bf16)) (hA : ∀ r z, A r z = X (r.emb z))
    (L : List (View.Piece (Elt F) S192x7168 .bf16)) (hL : AllP (GoodX A) 672 L) :
    v.read (Elt F) (v.writes (Elt F) f L) = xpOf X := by
  funext y
  refine View.read_writes_apply_of_pieces v f (xpOf X) L ?_ y ?_
  · intro p hp x
    obtain ⟨n, hn, h1, rfl⟩ := hL.forall p hp
    have h0 : (x 0).val < 16 := (x 0).isLt
    have h1' : (x 1).val < 128 := (x 1).isLt
    have e0 : ((Rect.unit (s := S192x7168) ![16 * (n / 56), 128 * (n % 56)] S16x128.size h1).emb x 0).val = 16 * (n / 56) + (x 0).val := by
      show 16 * (n / 56) + 1 * (x 0).val = _; omega
    have e1 : ((Rect.unit (s := S192x7168) ![16 * (n / 56), 128 * (n % 56)] S16x128.size h1).emb x 1).val = 128 * (n % 56) + (x 1).val := by
      show 128 * (n % 56) + 1 * (x 1).val = _; omega
    show k0_pay6 (A (Rect.unit (s := S192x7168) ![16 * (n / 56), 128 * (n % 56)] S16x128.size h1)) x = k0_pay6 _ _
    congr 1
    · funext z
      rw [hA]
      congr 1
      refine (eq_ix2 _).trans ?_
      have g0 : ((Rect.unit (s := S192x7168) ![16 * (n / 56), 128 * (n % 56)] S16x128.size h1).emb z 0).val = 16 * (n / 56) + (z 0).val := by
        show 16 * (n / 56) + 1 * (z 0).val = _; omega
      have g1 : ((Rect.unit (s := S192x7168) ![16 * (n / 56), 128 * (n % 56)] S16x128.size h1).emb z 1).val = 128 * (n % 56) + (z 1).val := by
        show 128 * (n % 56) + 1 * (z 1).val = _; omega
      congr 1
      · apply Fin.ext; rw [g0]; show _ = 16 * (_ / 16) + _; rw [e0]; omega
      · apply Fin.ext; rw [g1]; show _ = 128 * (_ / 128) + _; rw [e1]; omega
    · refine (eq_ix2 x).trans ?_
      congr 1
      · apply Fin.ext; show _ = _ % 16; rw [e0]; omega
      · apply Fin.ext; show _ = _ % 128; rw [e1]; omega
  · have hy0 := idx2_lt0 y; have hy1 := idx2_lt1 y
    obtain ⟨p, hp, h1, rfl⟩ := hL.mem (56 * ((y 0).val / 16) + (y 1).val / 128) (by omega)
    refine ⟨_, hp, ?_⟩
    rw [Rect.mem_set_unit]
    intro a
    match a with
    | ⟨0, _⟩ => constructor <;> (simp; omega)
    | ⟨1, _⟩ => constructor <;> (simp; omega)

/-- After stores that are the 448 slabs of the dequantized weights, the buffer reads as them. -/
theorem read_wlist {sp : Space} (v : View sig .tc sp S7168x512 .bf16) (f : v.ty.Contents (Elt F)) (X : S512x3584.Idx → Elt F .i8)
    (S : S224x2x512.Idx → Elt F .bf16)
    (A : (r : Rect S512x3584) → (r.shape.Idx → Elt F .i8)) (hA : ∀ r z, A r z = X (r.emb z))
    (C : (r : Rect S224x2x512) → (r.shape.Idx → Elt F .bf16)) (hC : ∀ r z, C r z = S (r.emb z))
    (L : List (View.Piece (Elt F) S7168x512 .bf16)) (hL : AllP (GoodW A C) 448 L) :
    v.read (Elt F) (v.writes (Elt F) f L) = wdOf X S := by
  funext y
  refine View.read_writes_apply_of_pieces v f (wdOf X S) L ?_ y ?_
  · intro p hp x
    obtain ⟨n, hn, h1, hs, h2, h3, rfl⟩ := hL.forall p hp
    have h0 : (x 0).val < 16 := (x 0).isLt
    have e0 : ((Rect.unit (s := S7168x512) ![16 * n, 0] S16x512.size h1).emb x 0).val = 16 * n + (x 0).val := by
      show 16 * n + 1 * (x 0).val = _; omega
    have e1 : ((Rect.unit (s := S7168x512) ![16 * n, 0] S16x512.size h1).emb x 1) = x 1 := by
      apply Fin.ext; show 0 + 1 * (x 1).val = _; omega
    show (wCell n hs _ _ : FVec F S16x512 .bf16) x = _
    unfold wCell
    rw [shapeCast_self]
    show FloatOps.mulf (extractStridedSlice S16x512 ![16 * (n % 16), 0] (_ : FVec F S256x512 .bf16) hs x) _ = FloatOps.mulf _ _
    refine congrArg₂ FloatOps.mulf ?_ ?_
    · refine congr (congrArg k0_pay996 ?_) ?_
      · funext z
        rw [hA]
        congr 1
        refine (eq_ix2 _).trans ?_
        have g1 : ((Rect.unit (s := S512x3584) ![0, 128 * (n / 16)] S512x128.size h2).emb z 1).val = 128 * (n / 16) + (z 1).val := by
          show 128 * (n / 16) + 1 * (z 1).val = _; omega
        congr 1
        · apply Fin.ext; show 0 + 1 * (z 0).val = _; omega
        · apply Fin.ext; rw [g1]; show _ = 128 * (_ / 256) + _; rw [e0]; omega
      · refine (eq_ix2 _).trans ?_
        congr 1
        · apply Fin.ext; show 16 * (n % 16) + (x 0).val = _ % 256; rw [e0]; omega
        · rw [e1]; apply Fin.ext; show 0 + (x 1).val = _; omega
    · refine congr (congrArg k0_pay997 ?_) ?_
      · funext z
        rw [hC]
        congr 1
        refine (eq_ix3 _).trans ?_
        have hz : (z 0).val < 1 := (z 0).isLt
        congr 1
        · apply Fin.ext; show n / 2 + 1 * (z 0).val = _ / 32; rw [e0]; omega
        · apply Fin.ext; show 0 + 1 * (z 1).val = _; omega
        · apply Fin.ext; show 0 + 1 * (z 2).val = _; omega
      · refine (eq_ix2 x).trans ?_
        congr 1
        · apply Fin.ext; show _ = _ % 16; rw [e0]; omega
        · rw [e1]
  · have hy0 := idx2_lt0 y; have hy1 := idx2_lt1 y
    obtain ⟨p, hp, h1, hs, h2, h3, rfl⟩ := hL.mem ((y 0).val / 16) (by omega)
    refine ⟨_, hp, ?_⟩
    rw [Rect.mem_set_unit]
    intro a
    match a with
    | ⟨0, _⟩ => constructor <;> (simp; omega)
    | ⟨1, _⟩ => exact ⟨Nat.zero_le _, by simpa using hy1⟩

end Cert.KI

end
-- ==== Proof.KI.Owns.lean ====
/-
  Owning a whole buffer by the value it reads as, and what the buffer of the scales reads as after its one store.
-/
module

public import proofs.«01_k».proof.Proof.KI.Spec
public import Idealize.ShloMosaic.Lib.Tactic

@[expose] public section

set_option maxRecDepth 16384

noncomputable section

namespace Cert.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

omit [FloatOps F] in
/-- Owning a whole memory reference at contents `X` is holding its buffer whole at contents that read as `X`. -/
theorem owns_eq_pt (c : Dev nD) {sp : Space} {S : Shape} {e : EltTy} {M : Memref sig .tc sp S e} (h : M.IsWhole)
    (X : S.Idx → Elt F e) :
    (owns (Ix := Unit) (Name := ℕ) (U := UR sig nD τ) (Lvl := ℕ) (c : Thread nD τ) M fullShare X : sProp 𝕄)
      = iprop(∃ f : Bf (F := F) c M, ⌜M.view.read (Elt F) f = X⌝ ∗ pt c M f) := by
  obtain ⟨b, hsp, hsh, he, h⟩ := h
  subst hsp hsh he
  cases h
  unfold owns; simp only [Memref.view_whole, View.read_whole, View.set_whole]

/-- The buffer of the scales, after its one store, reads as what was stored. -/
theorem read_scale {c : Dev nD} (M3 : Memref sig .tc .vmem S512x224 .bf16) (M8 : Memref sig .tc .vmem S224x2x512 .bf16)
    (f3 : Bf (F := F) c M3) (X3 : S512x224.Idx → Elt F .bf16) (e3 : M3.view.read (Elt F) f3 = X3)
    {off : Fin 2 → ℕ} (inb : ∀ a, off a + S512x224.size a ≤ S512x224.size a)
    {off' : Fin 3 → ℕ} (inb' : ∀ a, off' a + S224x2x512.size a ≤ S224x2x512.size a) :
    M8.view.read (Elt F) (M8.view.writes (Elt F) M8.view.junk
      [⟨Rect.unit off' S224x2x512.size inb', k0_pay995 (M3.view.readAt (Elt F) (Rect.unit off S512x224.size inb).toLoadRect f3)⟩]) = k0_pay995 X3 := by
  rw [View.read_writes_full, View.readAt_full, e3]

end Cert.KI

end
-- ==== Proof.KI.BodyFirst.lean ====
/-
  The kernel body at the first point of the grid, over operands owned by their contents as values.
-/
module

public import proofs.«01_k».proof.Proof.KI.ListFirst
public import proofs.«01_k».proof.Proof.KI.Owns

@[expose] public section

set_option maxRecDepth 16384
set_option maxHeartbeats 2000000

noncomputable section

namespace Cert.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body at the first point: what it leaves in the buffers it writes, as functions of what it finds. -/
theorem bodyFirst (c : Dev nD) (i : grid0.Coords) (hc1 : cond1 i = 1#1) (hc2 : ¬ k0_cond2 i = 1#1)
    (M1 : Memref sig .tc .vmem S192x7168 .bf16) (h1 : M1.IsWhole) (M2 : Memref sig .tc .vmem S512x3584 .i8) (h2 : M2.IsWhole) (M3 : Memref sig .tc .vmem S512x224 .bf16) (h3 : M3.IsWhole) (M4 : Memref sig .tc .vmem S192x1 .i32) (h4 : M4.IsWhole) (M5 : Memref sig .tc .vmem S192x1 .f32) (h5 : M5.IsWhole) (M6 : Memref sig .tc .vmem S192x1 .f32) (h6 : M6.IsWhole) (M7 : Memref sig .tc .vmem S192x7168 .bf16) (h7 : M7.IsWhole) (M8 : Memref sig .tc .vmem S224x2x512 .bf16) (h8 : M8.IsWhole) (M9 : Memref sig .tc .vmem S7168x512 .bf16) (h9 : M9.IsWhole) (M10 : Memref sig .tc .vmem S192x128 .f32) (h10 : M10.IsWhole) (M11 : Memref sig .tc .vmem S192x128 .f32) (h11 : M11.IsWhole) (M12 : Memref sig .tc .vmem S192x128 .i32) (h12 : M12.IsWhole)
    (X1 : S192x7168.Idx → Elt F .bf16) (X2 : S512x3584.Idx → Elt F .i8) (X3 : S512x224.Idx → Elt F .bf16) (X4 : S192x1.Idx → Elt F .i32) (X5 : S192x1.Idx → Elt F .f32) (X6 : S192x1.Idx → Elt F .f32) (f7 : Bf (F := F) c M7) (f8 : Bf (F := F) c M8) (f9 : Bf (F := F) c M9) (f10 : Bf (F := F) c M10) (f11 : Bf (F := F) c M11) (f12 : Bf (F := F) c M12)
    (E : Set ℕ) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ pt c M7 f7 ∗ pt c M8 f8 ∗ pt c M9 f9 ∗ pt c M10 f10 ∗ pt c M11 f11 ∗ pt c M12 f12
      ∗ (iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare (xpOf X1) ∗ (∃ f, pt c M8 f) ∗ (∃ f, pt c M9 f) ∗ owns (c : Thread nD τ) M10 fullShare (m1Of (BitVec.ofNat 32 (i 0).val) (xpOf X1) (wdOf X2 (k0_pay995 X3)) k0_pay991) ∗ owns (c : Thread nD τ) M11 fullShare (m2Of (BitVec.ofNat 32 (i 0).val) (xpOf X1) (wdOf X2 (k0_pay995 X3)) k0_pay991 k0_pay992) ∗ owns (c : Thread nD τ) M12 fullShare (ixOf (BitVec.ofNat 32 (i 0).val) (xpOf X1) (wdOf X2 (k0_pay995 X3)) k0_pay991 (k0_pay994 k0_pay993))) -∗ Q ⟨⟩))
    ⊢ wp frame (wpE (defs₀ (F := F)) Variants.none c none) E (cc0_q4_head i M1 h1 M2 h2 M3 h3 M4 h4 M5 h5 M6 h6 M7 h7 M8 h8 M9 h9 M10 h10 M11 h11 M12 h12) Q := by
  simp only [owns_eq_pt c h1, owns_eq_pt c h2, owns_eq_pt c h3, owns_eq_pt c h4, owns_eq_pt c h5, owns_eq_pt c h6, owns_eq_pt c h7, owns_eq_pt c h10, owns_eq_pt c h11, owns_eq_pt c h12]
  iintro ⟨⟨%f1, %e1, H1⟩, ⟨%f2, %e2, H2⟩, ⟨%f3, %e3, H3⟩, ⟨%f4, %e4, H4⟩, ⟨%f5, %e5, H5⟩, ⟨%f6, %e6, H6⟩, H7, H8, H9, H10, H11, H12, Hk⟩
  have ewd : ((runFirst.sl.v3434 c M2 M3 M8 M9 f2 f3) : S7168x512.Idx → Elt F .bf16) = (wdOf X2 (k0_pay995 X3)) := by
    unfold runFirst.sl.v3434
    show M9.view.readAt (Elt F) _ (M9.view.writes (Elt F) M9.view.junk _) = _
    rw [View.readAt_full]
    refine read_wlist M9.view _ X2 (k0_pay995 X3) _ (fun r z => congrFun e2 (r.emb z)) _ ?_ _ (wlist_first c M2 M3 M8 f2 f3)
    exact fun r z => congrFun (read_scale M3 M8 f3 X3 e3 _ _) (r.emb z)
  have hw7 : M7.view.read (Elt F) (runFirst c i hc1 hc2 M1 h1 M2 h2 M3 h3 M4 h4 M5 h5 M6 h6 M7 h7 M8 h8 M9 h9 M10 h10 M11 h11 M12 h12 f1 f2 f3).1.1 = xpOf X1 :=
    read_xlist M7.view _ X1 _ (fun r z => congrFun e1 (r.emb z)) _ (xlist_first c M1 f1)
  have exp : ((runFirst.sl.v3433 c M1 M7 f1) : S192x7168.Idx → Elt F .bf16) = xpOf X1 := by
    unfold runFirst.sl.v3433
    show M7.view.readAt (Elt F) _ (M7.view.writes (Elt F) M7.view.junk _) = _
    rw [View.readAt_full]
    exact hw7
  have hw10 : M10.view.read (Elt F) (M10.view.writes (Elt F) M10.view.junk (runFirst.sl.H10_2 c i M1 M2 M3 M7 M8 M9 M10 f1 f2 f3)) = (m1Of (BitVec.ofNat 32 (i 0).val) (xpOf X1) (wdOf X2 (k0_pay995 X3)) k0_pay991) := by
    unfold runFirst.sl.H10_2 runFirst.sl.r_330 runFirst.sl.r_332 runFirst.sl.r_334 runFirst.sl.v3437 runFirst.sl.H10_1
    rw [View.read_writes_full, exp, ewd, View.readCov_full]
    rfl
  have hw11 : M11.view.read (Elt F) (M11.view.writes (Elt F) M11.view.junk (runFirst.sl.H11_2 c i M1 M2 M3 M7 M8 M9 M10 M11 f1 f2 f3)) = (m2Of (BitVec.ofNat 32 (i 0).val) (xpOf X1) (wdOf X2 (k0_pay995 X3)) k0_pay991 k0_pay992) := by
    unfold runFirst.sl.H11_2 runFirst.sl.r_330 runFirst.sl.r_331 runFirst.sl.r_332 runFirst.sl.r_334 runFirst.sl.v3437 runFirst.sl.H10_1 runFirst.sl.v3438 runFirst.sl.H11_1
    rw [View.read_writes_full, exp, ewd, View.readCov_full, View.readCov_full]
    rfl
  have hw12 : M12.view.read (Elt F) (M12.view.writes (Elt F) M12.view.junk (runFirst.sl.H12_2 c i M1 M2 M3 M7 M8 M9 M10 M12 f1 f2 f3)) = (ixOf (BitVec.ofNat 32 (i 0).val) (xpOf X1) (wdOf X2 (k0_pay995 X3)) k0_pay991 (k0_pay994 k0_pay993)) := by
    unfold runFirst.sl.H12_2 runFirst.sl.r_330 runFirst.sl.r_332 runFirst.sl.r_333 runFirst.sl.r_334 runFirst.sl.v3437 runFirst.sl.H10_1 runFirst.sl.v3439 runFirst.sl.H12_1
    rw [View.read_writes_full, exp, ewd, View.readCov_full, View.readCov_full]
    rfl
  iapply ((runFirst c i hc1 hc2 M1 h1 M2 h2 M3 h3 M4 h4 M5 h5 M6 h6 M7 h7 M8 h8 M9 h9 M10 h10 M11 h11 M12 h12 f1 f2 f3).2 f4 f5 f6 f7 f8 f9 f10 f11 f12 E Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H1, H2, H3, H4, H5, H6, H7, H8, H9, H10, H11, H12⟩
  iapply Hk
  isplitl [H1]; · iexists f1; isplitr; (· ipureintro; exact e1); iexact H1
  isplitl [H2]; · iexists f2; isplitr; (· ipureintro; exact e2); iexact H2
  isplitl [H3]; · iexists f3; isplitr; (· ipureintro; exact e3); iexact H3
  isplitl [H4]; · iexists f4; isplitr; (· ipureintro; exact e4); iexact H4
  isplitl [H5]; · iexists f5; isplitr; (· ipureintro; exact e5); iexact H5
  isplitl [H6]; · iexists f6; isplitr; (· ipureintro; exact e6); iexact H6
  isplitl [H7]; · iexists _; isplitr; (· ipureintro; exact hw7); iexact H7
  isplitl [H8]; · iexact H8
  isplitl [H9]; · iexact H9
  isplitl [H10]; · iexists _; isplitr; (· ipureintro; exact hw10); iexact H10
  isplitl [H11]; · iexists _; isplitr; (· ipureintro; exact hw11); iexact H11
  · iexists _; isplitr; (· ipureintro; exact hw12); iexact H12

end Cert.KI

end
-- ==== Proof.KI.RunMid.lean ====
/-
  The kernel body of `KernelIdeal` run once, at symbolic operands, at a point between the first and the last of the grid.
-/
module

public import proofs.«01_k».proof.Proof.Gen.KernelIdeal.Frame
public import proofs.«01_k».proof.Proof.Gen.KernelIdeal.Skeleton
public import proofs.«01_k».proof.Proof.KI.Base
public import Idealize.ShloMosaic.Lib.Tactic

@[expose] public section

set_option maxRecDepth 16384

noncomputable section

namespace Cert.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What the body leaves in the buffers it writes at a point between the first and the last, with the proof that it runs to its return from the
    twelve buffers held whole and hands them back, the written ones at those contents. -/
def runMid (c : Dev nD) (i : grid0.Coords) (hc1 : ¬ cond1 i = 1#1) (hc2 : ¬ k0_cond2 i = 1#1)
    (M1 : Memref sig .tc .vmem S192x7168 .bf16) (h1 : M1.IsWhole) (M2 : Memref sig .tc .vmem S512x3584 .i8) (h2 : M2.IsWhole) (M3 : Memref sig .tc .vmem S512x224 .bf16) (h3 : M3.IsWhole) (M4 : Memref sig .tc .vmem S192x1 .i32) (h4 : M4.IsWhole) (M5 : Memref sig .tc .vmem S192x1 .f32) (h5 : M5.IsWhole) (M6 : Memref sig .tc .vmem S192x1 .f32) (h6 : M6.IsWhole) (M7 : Memref sig .tc .vmem S192x7168 .bf16) (h7 : M7.IsWhole) (M8 : Memref sig .tc .vmem S224x2x512 .bf16) (h8 : M8.IsWhole) (M9 : Memref sig .tc .vmem S7168x512 .bf16) (h9 : M9.IsWhole) (M10 : Memref sig .tc .vmem S192x128 .f32) (h10 : M10.IsWhole) (M11 : Memref sig .tc .vmem S192x128 .f32) (h11 : M11.IsWhole) (M12 : Memref sig .tc .vmem S192x128 .i32) (h12 : M12.IsWhole)
    (f1 : Bf (F := F) c M1) (f2 : Bf (F := F) c M2) (f3 : Bf (F := F) c M3) (f7 : Bf (F := F) c M7) (f10 : Bf (F := F) c M10) (f11 : Bf (F := F) c M11) (f12 : Bf (F := F) c M12) :
    { W : Bf (F := F) c M10 × Bf (F := F) c M11 × Bf (F := F) c M12 //
      ∀ (f4 : Bf (F := F) c M4) (f5 : Bf (F := F) c M5) (f6 : Bf (F := F) c M6) (f8 : Bf (F := F) c M8) (f9 : Bf (F := F) c M9) (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12
          ∗ (iprop(pt c M1 f1 ∗ pt c M2 f2 ∗ pt c M3 f3 ∗ pt c M4 f4 ∗ pt c M5 f5 ∗ pt c M6 f6 ∗ pt c M7 f7 ∗ (∃ f, pt c M8 f) ∗ (∃ f, pt c M9 f) ∗ pt c M10 (W.1) ∗ pt c M11 (W.2.1) ∗ pt c M12 (W.2.2)) -∗ Q ⟨⟩))
        ⊢ wp frame (wpE (defs₀ (F := F)) Variants.none c none) E (cc0_q4_head i M1 h1 M2 h2 M3 h3 M4 h4 M5 h5 M6 h6 M7 h7 M8 h8 M9 h9 M10 h10 M11 h11 M12 h12) Q } := by
  refine ⟨⟨?_, ?_, ?_⟩, fun f4 f5 f6 f8 f9 E Q => ?run⟩
  case run =>
    iintro ⟨H1, H2, H3, H4, H5, H6, H7, H8, H9, H10, H11, H12, Hk⟩
    sl_unfold [cc0_q4_head]
    sl_exec_parts! (disch := first | exact hc1 | exact hc2)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    isplitl [H11]; · iexact H11
    iexact H12

end Cert.KI

end
-- ==== Proof.KI.ListMid.lean ====
module

public import proofs.«01_k».proof.Proof.KI.RunMid
public import proofs.«01_k».proof.Proof.KI.Pieces

@[expose] public section

set_option maxRecDepth 16384

noncomputable section

namespace Cert.KI

open Cert.KernelIdeal Cert.KernelIdeal.Gen
open Idealize.ShloMosaic
open Idealize.ShloMosaic.TcCoe

variable {F : FTy → Type} [FloatOps F]

/-- At a middle point, each of the 448 stores to the weights' scratch is of the form the unpacking makes. -/
theorem wlist_mid (c : Dev nD) (M2 : Memref sig .tc .vmem S512x3584 .i8) (M3 : Memref sig .tc .vmem S512x224 .bf16)
    (M8 : Memref sig .tc .vmem S224x2x512 .bf16) (f2 : Bf (F := F) c M2) (f3 : Bf (F := F) c M3) :
    AllP (GoodW (fun r => M2.view.readAt (Elt F) r.toLoadRect f2) (fun r => M8.view.readCov (runMid.sl.H8_1 c M3 f3) r.toLoadRect)) 448
      (runMid.sl.H9_448 c M2 M3 M8 f2 f3) := by
  iterate 448 refine ⟨⟨_, (by decide), _, _, rfl⟩, ?_⟩
  rfl

end Cert.KI

end
-- ==== Proof.KI.BodyMid.lean ====
/-
  The kernel body at a point between the first and the last of the grid, over operands owned by their contents as values.
-/
module

public import proofs.«01_k».proof.Proof.KI.ListMid
public import proofs.«01_k».proof.Proof.KI.Owns

@[expose] public section

set_option maxRecDepth 16384
set_option maxHeartbeats 2000000

noncomputable section

namespace Cert.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body at a point between the first and the last: what it leaves in the buffers it writes, as functions of what it finds. -/
theorem bodyMid (c : Dev nD) (i : grid0.Coords) (hc1 : ¬ cond1 i = 1#1) (hc2 : ¬ k0_cond2 i = 1#1)
    (M1 : Memref sig .tc .vmem S192x7168 .bf16) (h1 : M1.IsWhole) (M2 : Memref sig .tc .vmem S512x3584 .i8) (h2 : M2.IsWhole) (M3 : Memref sig .tc .vmem S512x224 .bf16) (h3 : M3.IsWhole) (M4 : Memref sig .tc .vmem S192x1 .i32) (h4 : M4.IsWhole) (M5 : Memref sig .tc .vmem S192x1 .f32) (h5 : M5.IsWhole) (M6 : Memref sig .tc .vmem S192x1 .f32) (h6 : M6.IsWhole) (M7 : Memref sig .tc .vmem S192x7168 .bf16) (h7 : M7.IsWhole) (M8 : Memref sig .tc .vmem S224x2x512 .bf16) (h8 : M8.IsWhole) (M9 : Memref sig .tc .vmem S7168x512 .bf16) (h9 : M9.IsWhole) (M10 : Memref sig .tc .vmem S192x128 .f32) (h10 : M10.IsWhole) (M11 : Memref sig .tc .vmem S192x128 .f32) (h11 : M11.IsWhole) (M12 : Memref sig .tc .vmem S192x128 .i32) (h12 : M12.IsWhole)
    (X1 : S192x7168.Idx → Elt F .bf16) (X2 : S512x3584.Idx → Elt F .i8) (X3 : S512x224.Idx → Elt F .bf16) (X4 : S192x1.Idx → Elt F .i32) (X5 : S192x1.Idx → Elt F .f32) (X6 : S192x1.Idx → Elt F .f32) (X7 : S192x7168.Idx → Elt F .bf16) (X10 : S192x128.Idx → Elt F .f32) (X11 : S192x128.Idx → Elt F .f32) (X12 : S192x128.Idx → Elt F .i32) (f8 : Bf (F := F) c M8) (f9 : Bf (F := F) c M9)
    (E : Set ℕ) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ pt c M8 f8 ∗ pt c M9 f9 ∗ owns (c : Thread nD τ) M10 fullShare X10 ∗ owns (c : Thread nD τ) M11 fullShare X11 ∗ owns (c : Thread nD τ) M12 fullShare X12
      ∗ (iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ (∃ f, pt c M8 f) ∗ (∃ f, pt c M9 f) ∗ owns (c : Thread nD τ) M10 fullShare (m1Of (BitVec.ofNat 32 (i 0).val) X7 (wdOf X2 (k0_pay995 X3)) X10) ∗ owns (c : Thread nD τ) M11 fullShare (m2Of (BitVec.ofNat 32 (i 0).val) X7 (wdOf X2 (k0_pay995 X3)) X10 X11) ∗ owns (c : Thread nD τ) M12 fullShare (ixOf (BitVec.ofNat 32 (i 0).val) X7 (wdOf X2 (k0_pay995 X3)) X10 X12)) -∗ Q ⟨⟩))
    ⊢ wp frame (wpE (defs₀ (F := F)) Variants.none c none) E (cc0_q4_head i M1 h1 M2 h2 M3 h3 M4 h4 M5 h5 M6 h6 M7 h7 M8 h8 M9 h9 M10 h10 M11 h11 M12 h12) Q := by
  simp only [owns_eq_pt c h1, owns_eq_pt c h2, owns_eq_pt c h3, owns_eq_pt c h4, owns_eq_pt c h5, owns_eq_pt c h6, owns_eq_pt c h7, owns_eq_pt c h10, owns_eq_pt c h11, owns_eq_pt c h12]
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, H8, H9, ⟨%f10, %e10, H10⟩, ⟨%f11, %e11, H11⟩, ⟨%f12, %e12, H12⟩, Hk⟩
  have ewd : ((runMid.sl.v3434 c M2 M3 M8 M9 f2 f3) : S7168x512.Idx → Elt F .bf16) = (wdOf X2 (k0_pay995 X3)) := by
    unfold runMid.sl.v3434
    show M9.view.readAt (Elt F) _ (M9.view.writes (Elt F) M9.view.junk _) = _
    rw [View.readAt_full]
    refine read_wlist M9.view _ X2 (k0_pay995 X3) _ (fun r z => congrFun e2 (r.emb z)) _ ?_ _ (wlist_mid c M2 M3 M8 f2 f3)
    exact fun r z => congrFun (read_scale M3 M8 f3 X3 e3 _ _) (r.emb z)
  have hw10 : M10.view.read (Elt F) (M10.view.writes (Elt F) M10.view.junk (runMid.sl.H10_1 c i M2 M3 M7 M8 M9 M10 f2 f3 f7 f10)) = (m1Of (BitVec.ofNat 32 (i 0).val) X7 (wdOf X2 (k0_pay995 X3)) X10) := by
    unfold runMid.sl.H10_1 runMid.sl.r_129 runMid.sl.r_131 runMid.sl.r_133
    rw [View.read_writes_full, ewd, View.readAt_full, View.readAt_full, e7, e10]
    rfl
  have hw11 : M11.view.read (Elt F) (M11.view.writes (Elt F) M11.view.junk (runMid.sl.H11_1 c i M2 M3 M7 M8 M9 M10 M11 f2 f3 f7 f10 f11)) = (m2Of (BitVec.ofNat 32 (i 0).val) X7 (wdOf X2 (k0_pay995 X3)) X10 X11) := by
    unfold runMid.sl.H11_1 runMid.sl.r_129 runMid.sl.r_130 runMid.sl.r_131 runMid.sl.r_133
    rw [View.read_writes_full, ewd, View.readAt_full, View.readAt_full, View.readAt_full, e7, e10, e11]
    rfl
  have hw12 : M12.view.read (Elt F) (M12.view.writes (Elt F) M12.view.junk (runMid.sl.H12_1 c i M2 M3 M7 M8 M9 M10 M12 f2 f3 f7 f10 f12)) = (ixOf (BitVec.ofNat 32 (i 0).val) X7 (wdOf X2 (k0_pay995 X3)) X10 X12) := by
    unfold runMid.sl.H12_1 runMid.sl.r_129 runMid.sl.r_131 runMid.sl.r_132 runMid.sl.r_133
    rw [View.read_writes_full, ewd, View.readAt_full, View.readAt_full, View.readAt_full, e7, e10, e12]
    rfl
  iapply ((runMid c i hc1 hc2 M1 h1 M2 h2 M3 h3 M4 h4 M5 h5 M6 h6 M7 h7 M8 h8 M9 h9 M10 h10 M11 h11 M12 h12 f1 f2 f3 f7 f10 f11 f12).2 f4 f5 f6 f8 f9 E Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H1, H2, H3, H4, H5, H6, H7, H8, H9, H10, H11, H12⟩
  iapply Hk
  isplitl [H1]; · iexists f1; isplitr; (· ipureintro; exact e1); iexact H1
  isplitl [H2]; · iexists f2; isplitr; (· ipureintro; exact e2); iexact H2
  isplitl [H3]; · iexists f3; isplitr; (· ipureintro; exact e3); iexact H3
  isplitl [H4]; · iexists f4; isplitr; (· ipureintro; exact e4); iexact H4
  isplitl [H5]; · iexists f5; isplitr; (· ipureintro; exact e5); iexact H5
  isplitl [H6]; · iexists f6; isplitr; (· ipureintro; exact e6); iexact H6
  isplitl [H7]; · iexists f7; isplitr; (· ipureintro; exact e7); iexact H7
  isplitl [H8]; · iexact H8
  isplitl [H9]; · iexact H9
  isplitl [H10]; · iexists _; isplitr; (· ipureintro; exact hw10); iexact H10
  isplitl [H11]; · iexists _; isplitr; (· ipureintro; exact hw11); iexact H11
  · iexists _; isplitr; (· ipureintro; exact hw12); iexact H12

end Cert.KI

end
-- ==== Proof.KI.RunLast.lean ====
/-
  The kernel body of `KernelIdeal` run once, at symbolic operands, at the last point of the grid.
-/
module

public import proofs.«01_k».proof.Proof.Gen.KernelIdeal.Frame
public import proofs.«01_k».proof.Proof.Gen.KernelIdeal.Skeleton
public import proofs.«01_k».proof.Proof.KI.Base
public import Idealize.ShloMosaic.Lib.Tactic

@[expose] public section

set_option maxRecDepth 16384

noncomputable section

namespace Cert.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What the body leaves in the buffers it writes at the last point, with the proof that it runs to its return from the
    twelve buffers held whole and hands them back, the written ones at those contents. -/
def runLast (c : Dev nD) (i : grid0.Coords) (hc1 : ¬ cond1 i = 1#1) (hc2 : k0_cond2 i = 1#1)
    (M1 : Memref sig .tc .vmem S192x7168 .bf16) (h1 : M1.IsWhole) (M2 : Memref sig .tc .vmem S512x3584 .i8) (h2 : M2.IsWhole) (M3 : Memref sig .tc .vmem S512x224 .bf16) (h3 : M3.IsWhole) (M4 : Memref sig .tc .vmem S192x1 .i32) (h4 : M4.IsWhole) (M5 : Memref sig .tc .vmem S192x1 .f32) (h5 : M5.IsWhole) (M6 : Memref sig .tc .vmem S192x1 .f32) (h6 : M6.IsWhole) (M7 : Memref sig .tc .vmem S192x7168 .bf16) (h7 : M7.IsWhole) (M8 : Memref sig .tc .vmem S224x2x512 .bf16) (h8 : M8.IsWhole) (M9 : Memref sig .tc .vmem S7168x512 .bf16) (h9 : M9.IsWhole) (M10 : Memref sig .tc .vmem S192x128 .f32) (h10 : M10.IsWhole) (M11 : Memref sig .tc .vmem S192x128 .f32) (h11 : M11.IsWhole) (M12 : Memref sig .tc .vmem S192x128 .i32) (h12 : M12.IsWhole)
    (f1 : Bf (F := F) c M1) (f2 : Bf (F := F) c M2) (f3 : Bf (F := F) c M3) (f7 : Bf (F := F) c M7) (f10 : Bf (F := F) c M10) (f11 : Bf (F := F) c M11) (f12 : Bf (F := F) c M12) :
    { W : Bf (F := F) c M4 × Bf (F := F) c M5 × Bf (F := F) c M6 × Bf (F := F) c M10 × Bf (F := F) c M11 × Bf (F := F) c M12 //
      ∀ (f4 : Bf (F := F) c M4) (f5 : Bf (F := F) c M5) (f6 : Bf (F := F) c M6) (f8 : Bf (F := F) c M8) (f9 : Bf (F := F) c M9) (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12
          ∗ (iprop(pt c M1 f1 ∗ pt c M2 f2 ∗ pt c M3 f3 ∗ pt c M4 (W.1) ∗ pt c M5 (W.2.1) ∗ pt c M6 (W.2.2.1) ∗ pt c M7 f7 ∗ (∃ f, pt c M8 f) ∗ (∃ f, pt c M9 f) ∗ pt c M10 (W.2.2.2.1) ∗ pt c M11 (W.2.2.2.2.1) ∗ pt c M12 (W.2.2.2.2.2)) -∗ Q ⟨⟩))
        ⊢ wp frame (wpE (defs₀ (F := F)) Variants.none c none) E (cc0_q4_head i M1 h1 M2 h2 M3 h3 M4 h4 M5 h5 M6 h6 M7 h7 M8 h8 M9 h9 M10 h10 M11 h11 M12 h12) Q } := by
  refine ⟨⟨?_, ?_, ?_, ?_, ?_, ?_⟩, fun f4 f5 f6 f8 f9 E Q => ?run⟩
  case run =>
    iintro ⟨H1, H2, H3, H4, H5, H6, H7, H8, H9, H10, H11, H12, Hk⟩
    sl_unfold [cc0_q4_head]
    sl_exec_parts! (disch := first | exact hc1 | exact hc2)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    isplitl [H11]; · iexact H11
    iexact H12

end Cert.KI

end
-- ==== Proof.KI.ListLast.lean ====
module

public import proofs.«01_k».proof.Proof.KI.RunLast
public import proofs.«01_k».proof.Proof.KI.Pieces

@[expose] public section

set_option maxRecDepth 16384

noncomputable section

namespace Cert.KI

open Cert.KernelIdeal Cert.KernelIdeal.Gen
open Idealize.ShloMosaic
open Idealize.ShloMosaic.TcCoe

variable {F : FTy → Type} [FloatOps F]

/-- At the last point, each of the 448 stores to the weights' scratch is of the form the unpacking makes. -/
theorem wlist_last (c : Dev nD) (M2 : Memref sig .tc .vmem S512x3584 .i8) (M3 : Memref sig .tc .vmem S512x224 .bf16)
    (M8 : Memref sig .tc .vmem S224x2x512 .bf16) (f2 : Bf (F := F) c M2) (f3 : Bf (F := F) c M3) :
    AllP (GoodW (fun r => M2.view.readAt (Elt F) r.toLoadRect f2) (fun r => M8.view.readCov (runLast.sl.H8_1 c M3 f3) r.toLoadRect)) 448
      (runLast.sl.H9_448 c M2 M3 M8 f2 f3) := by
  iterate 448 refine ⟨⟨_, (by decide), _, _, rfl⟩, ?_⟩
  rfl

end Cert.KI

end
-- ==== Proof.KI.BodyLast.lean ====
/-
  The kernel body at the last point of the grid, over operands owned by their contents as values.
-/
module

public import proofs.«01_k».proof.Proof.KI.ListLast
public import proofs.«01_k».proof.Proof.KI.Owns

@[expose] public section

set_option maxRecDepth 16384
set_option maxHeartbeats 2000000

noncomputable section

namespace Cert.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body at the last point: what it leaves in the buffers it writes, as functions of what it finds. -/
theorem bodyLast (c : Dev nD) (i : grid0.Coords) (hc1 : ¬ cond1 i = 1#1) (hc2 : k0_cond2 i = 1#1)
    (M1 : Memref sig .tc .vmem S192x7168 .bf16) (h1 : M1.IsWhole) (M2 : Memref sig .tc .vmem S512x3584 .i8) (h2 : M2.IsWhole) (M3 : Memref sig .tc .vmem S512x224 .bf16) (h3 : M3.IsWhole) (M4 : Memref sig .tc .vmem S192x1 .i32) (h4 : M4.IsWhole) (M5 : Memref sig .tc .vmem S192x1 .f32) (h5 : M5.IsWhole) (M6 : Memref sig .tc .vmem S192x1 .f32) (h6 : M6.IsWhole) (M7 : Memref sig .tc .vmem S192x7168 .bf16) (h7 : M7.IsWhole) (M8 : Memref sig .tc .vmem S224x2x512 .bf16) (h8 : M8.IsWhole) (M9 : Memref sig .tc .vmem S7168x512 .bf16) (h9 : M9.IsWhole) (M10 : Memref sig .tc .vmem S192x128 .f32) (h10 : M10.IsWhole) (M11 : Memref sig .tc .vmem S192x128 .f32) (h11 : M11.IsWhole) (M12 : Memref sig .tc .vmem S192x128 .i32) (h12 : M12.IsWhole)
    (X1 : S192x7168.Idx → Elt F .bf16) (X2 : S512x3584.Idx → Elt F .i8) (X3 : S512x224.Idx → Elt F .bf16) (X4 : S192x1.Idx → Elt F .i32) (X5 : S192x1.Idx → Elt F .f32) (X6 : S192x1.Idx → Elt F .f32) (X7 : S192x7168.Idx → Elt F .bf16) (X10 : S192x128.Idx → Elt F .f32) (X11 : S192x128.Idx → Elt F .f32) (X12 : S192x128.Idx → Elt F .i32) (f8 : Bf (F := F) c M8) (f9 : Bf (F := F) c M9)
    (E : Set ℕ) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ pt c M8 f8 ∗ pt c M9 f9 ∗ owns (c : Thread nD τ) M10 fullShare X10 ∗ owns (c : Thread nD τ) M11 fullShare X11 ∗ owns (c : Thread nD τ) M12 fullShare X12
      ∗ (iprop(owns (c : Thread nD τ) M1 fullShare X1 ∗ owns (c : Thread nD τ) M2 fullShare X2 ∗ owns (c : Thread nD τ) M3 fullShare X3 ∗ owns (c : Thread nD τ) M4 fullShare (k0_pay3 (iota .tc S192x128 32 [1] iota_S192x128_d1_w32) (m1Of (BitVec.ofNat 32 (i 0).val) X7 (wdOf X2 (k0_pay995 X3)) X10) (ixOf (BitVec.ofNat 32 (i 0).val) X7 (wdOf X2 (k0_pay995 X3)) X10 X12)) ∗ owns (c : Thread nD τ) M5 fullShare (k0_pay4 (iota .tc S192x128 32 [1] iota_S192x128_d1_w32) (m1Of (BitVec.ofNat 32 (i 0).val) X7 (wdOf X2 (k0_pay995 X3)) X10) (ixOf (BitVec.ofNat 32 (i 0).val) X7 (wdOf X2 (k0_pay995 X3)) X10 X12) (m2Of (BitVec.ofNat 32 (i 0).val) X7 (wdOf X2 (k0_pay995 X3)) X10 X11)) ∗ owns (c : Thread nD τ) M6 fullShare (k0_pay2 (m1Of (BitVec.ofNat 32 (i 0).val) X7 (wdOf X2 (k0_pay995 X3)) X10)) ∗ owns (c : Thread nD τ) M7 fullShare X7 ∗ (∃ f, pt c M8 f) ∗ (∃ f, pt c M9 f) ∗ owns (c : Thread nD τ) M10 fullShare (m1Of (BitVec.ofNat 32 (i 0).val) X7 (wdOf X2 (k0_pay995 X3)) X10) ∗ owns (c : Thread nD τ) M11 fullShare (m2Of (BitVec.ofNat 32 (i 0).val) X7 (wdOf X2 (k0_pay995 X3)) X10 X11) ∗ owns (c : Thread nD τ) M12 fullShare (ixOf (BitVec.ofNat 32 (i 0).val) X7 (wdOf X2 (k0_pay995 X3)) X10 X12)) -∗ Q ⟨⟩))
    ⊢ wp frame (wpE (defs₀ (F := F)) Variants.none c none) E (cc0_q4_head i M1 h1 M2 h2 M3 h3 M4 h4 M5 h5 M6 h6 M7 h7 M8 h8 M9 h9 M10 h10 M11 h11 M12 h12) Q := by
  simp only [owns_eq_pt c h1, owns_eq_pt c h2, owns_eq_pt c h3, owns_eq_pt c h4, owns_eq_pt c h5, owns_eq_pt c h6, owns_eq_pt c h7, owns_eq_pt c h10, owns_eq_pt c h11, owns_eq_pt c h12]
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, H8, H9, ⟨%f10, %e10, H10⟩, ⟨%f11, %e11, H11⟩, ⟨%f12, %e12, H12⟩, Hk⟩
  have ewd : ((runLast.sl.v3434 c M2 M3 M8 M9 f2 f3) : S7168x512.Idx → Elt F .bf16) = (wdOf X2 (k0_pay995 X3)) := by
    unfold runLast.sl.v3434
    show M9.view.readAt (Elt F) _ (M9.view.writes (Elt F) M9.view.junk _) = _
    rw [View.readAt_full]
    refine read_wlist M9.view _ X2 (k0_pay995 X3) _ (fun r z => congrFun e2 (r.emb z)) _ ?_ _ (wlist_last c M2 M3 M8 f2 f3)
    exact fun r z => congrFun (read_scale M3 M8 f3 X3 e3 _ _) (r.emb z)
  have hw10 : M10.view.read (Elt F) (M10.view.writes (Elt F) M10.view.junk (runLast.sl.H10_1 c i M2 M3 M7 M8 M9 M10 f2 f3 f7 f10)) = (m1Of (BitVec.ofNat 32 (i 0).val) X7 (wdOf X2 (k0_pay995 X3)) X10) := by
    unfold runLast.sl.H10_1 runLast.sl.r_129 runLast.sl.r_131 runLast.sl.r_133
    rw [View.read_writes_full, ewd, View.readAt_full, View.readAt_full, e7, e10]
    rfl
  have hw11 : M11.view.read (Elt F) (M11.view.writes (Elt F) M11.view.junk (runLast.sl.H11_1 c i M2 M3 M7 M8 M9 M10 M11 f2 f3 f7 f10 f11)) = (m2Of (BitVec.ofNat 32 (i 0).val) X7 (wdOf X2 (k0_pay995 X3)) X10 X11) := by
    unfold runLast.sl.H11_1 runLast.sl.r_129 runLast.sl.r_130 runLast.sl.r_131 runLast.sl.r_133
    rw [View.read_writes_full, ewd, View.readAt_full, View.readAt_full, View.readAt_full, e7, e10, e11]
    rfl
  have hw12 : M12.view.read (Elt F) (M12.view.writes (Elt F) M12.view.junk (runLast.sl.H12_1 c i M2 M3 M7 M8 M9 M10 M12 f2 f3 f7 f10 f12)) = (ixOf (BitVec.ofNat 32 (i 0).val) X7 (wdOf X2 (k0_pay995 X3)) X10 X12) := by
    unfold runLast.sl.H12_1 runLast.sl.r_129 runLast.sl.r_131 runLast.sl.r_132 runLast.sl.r_133
    rw [View.read_writes_full, ewd, View.readAt_full, View.readAt_full, View.readAt_full, e7, e10, e12]
    rfl
  have ev36 : (runLast.sl.v3436 : IVec S192x128 32) = (iota .tc S192x128 32 [1] iota_S192x128_d1_w32) := rfl
  have ev3500 : (runLast.sl.v3500 c i M2 M3 M7 M8 M9 M10 f2 f3 f7 f10 : S192x128.Idx → Elt F .f32) = (m1Of (BitVec.ofNat 32 (i 0).val) X7 (wdOf X2 (k0_pay995 X3)) X10) := by
    unfold runLast.sl.v3500
    show M10.view.readAt (Elt F) _ (M10.view.writes (Elt F) M10.view.junk _) = _
    rw [View.readAt_full]
    exact hw10
  have ev3515 : (runLast.sl.v3515 c i M2 M3 M7 M8 M9 M10 M11 f2 f3 f7 f10 f11 : S192x128.Idx → Elt F .f32) = (m2Of (BitVec.ofNat 32 (i 0).val) X7 (wdOf X2 (k0_pay995 X3)) X10 X11) := by
    unfold runLast.sl.v3515
    show M11.view.readAt (Elt F) _ (M11.view.writes (Elt F) M11.view.junk _) = _
    rw [View.readAt_full]
    exact hw11
  have ev3501 : (runLast.sl.v3501 c i M2 M3 M7 M8 M9 M10 M12 f2 f3 f7 f10 f12 : S192x128.Idx → Elt F .i32) = (ixOf (BitVec.ofNat 32 (i 0).val) X7 (wdOf X2 (k0_pay995 X3)) X10 X12) := by
    unfold runLast.sl.v3501
    show M12.view.readAt (Elt F) _ (M12.view.writes (Elt F) M12.view.junk _) = _
    rw [View.readAt_full]
    exact hw12
  have hw4 : M4.view.read (Elt F) (M4.view.writes (Elt F) M4.view.junk (runLast.sl.H4_1 c i M2 M3 M7 M8 M9 M10 M12 f2 f3 f7 f10 f12)) = k0_pay3 (iota .tc S192x128 32 [1] iota_S192x128_d1_w32) (m1Of (BitVec.ofNat 32 (i 0).val) X7 (wdOf X2 (k0_pay995 X3)) X10) (ixOf (BitVec.ofNat 32 (i 0).val) X7 (wdOf X2 (k0_pay995 X3)) X10 X12) := by
    unfold runLast.sl.H4_1
    rw [View.read_writes_full, ev36, ev3500, ev3501]
  have hw5 : M5.view.read (Elt F) (M5.view.writes (Elt F) M5.view.junk (runLast.sl.H5_1 c i M2 M3 M7 M8 M9 M10 M11 M12 f2 f3 f7 f10 f11 f12)) = k0_pay4 (iota .tc S192x128 32 [1] iota_S192x128_d1_w32) (m1Of (BitVec.ofNat 32 (i 0).val) X7 (wdOf X2 (k0_pay995 X3)) X10) (ixOf (BitVec.ofNat 32 (i 0).val) X7 (wdOf X2 (k0_pay995 X3)) X10 X12) (m2Of (BitVec.ofNat 32 (i 0).val) X7 (wdOf X2 (k0_pay995 X3)) X10 X11) := by
    unfold runLast.sl.H5_1
    rw [View.read_writes_full, ev36, ev3500, ev3501, ev3515]
  have hw6 : M6.view.read (Elt F) (M6.view.writes (Elt F) M6.view.junk (runLast.sl.H6_1 c i M2 M3 M7 M8 M9 M10 f2 f3 f7 f10)) = k0_pay2 (m1Of (BitVec.ofNat 32 (i 0).val) X7 (wdOf X2 (k0_pay995 X3)) X10) := by
    unfold runLast.sl.H6_1
    rw [View.read_writes_full, ev3500]
  iapply ((runLast c i hc1 hc2 M1 h1 M2 h2 M3 h3 M4 h4 M5 h5 M6 h6 M7 h7 M8 h8 M9 h9 M10 h10 M11 h11 M12 h12 f1 f2 f3 f7 f10 f11 f12).2 f4 f5 f6 f8 f9 E Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H1, H2, H3, H4, H5, H6, H7, H8, H9, H10, H11, H12⟩
  iapply Hk
  isplitl [H1]; · iexists f1; isplitr; (· ipureintro; exact e1); iexact H1
  isplitl [H2]; · iexists f2; isplitr; (· ipureintro; exact e2); iexact H2
  isplitl [H3]; · iexists f3; isplitr; (· ipureintro; exact e3); iexact H3
  isplitl [H4]; · iexists _; isplitr; (· ipureintro; exact hw4); iexact H4
  isplitl [H5]; · iexists _; isplitr; (· ipureintro; exact hw5); iexact H5
  isplitl [H6]; · iexists _; isplitr; (· ipureintro; exact hw6); iexact H6
  isplitl [H7]; · iexists f7; isplitr; (· ipureintro; exact e7); iexact H7
  isplitl [H8]; · iexact H8
  isplitl [H9]; · iexact H9
  isplitl [H10]; · iexists _; isplitr; (· ipureintro; exact hw10); iexact H10
  isplitl [H11]; · iexists _; isplitr; (· ipureintro; exact hw11); iexact H11
  · iexists _; isplitr; (· ipureintro; exact hw12); iexact H12

end Cert.KI

end
-- ==== Proof.KI.Step.lean ====
/-
  The kernel's running pair of largest values per lane, over the extended reals: one point of the grid folds four more
  column groups of the logits into it.
-/
module

public import proofs.«01_k».proof.Proof.KI.Spec
public import Idealize.ShloMosaic.Lib.MatmulPlain
public import Idealize.ShloMosaic.Lib.ValueIdx
public import Idealize.ShloMosaic.Lib.ValueLayout

@[expose] public section

set_option maxRecDepth 16384

noncomputable section

namespace Cert.KI

open Cert.KernelIdeal Cert.KernelIdeal.Gen
open Idealize.ShloMosaic Idealize.ShloMosaic.ValueIdx
open scoped BigOperators

/-- The largest of a lane's first `n` values (`⊥` of none). -/
def stM1 (v : ℕ → EReal) : ℕ → EReal
  | 0 => ⊥
  | n + 1 => max (stM1 v n) (v n)

/-- The second largest of a lane's first `n` values, counted with repetition (`⊥` of fewer than two). -/
def stM2 (v : ℕ → EReal) : ℕ → EReal
  | 0 => ⊥
  | n + 1 => max (stM2 v n) (min (stM1 v n) (v n))

/-- The place of the largest of a lane's first `n` values, the earliest of equal ones. -/
def stIx (v : ℕ → EReal) : ℕ → BitVec 32
  | 0 => 0#32
  | n + 1 => if stM1 v n < v n then BitVec.ofNat 32 n else stIx v n

/-- The bit pattern of the kernel's `-inf` denotes `⊥`. -/
theorem ofBits_ninf : Ideal.ofBits .f32 0xFF800000#32 = ⊥ := by simp [Ideal.ofBits, Ideal.ieee]

/-- A column group is one of the 125 the vocabulary has, decided on words as the kernel does. -/
theorem group_lt : ∀ t : Fin 32, ∀ j : Fin 4,
    Scalar.cmpi .slt (Scalar.addi (Scalar.muli (BitVec.ofNat 32 t.val) 4#32) (BitVec.ofNat 32 j.val)) 125#32
      = if 4 * t.val + j.val < 125 then 1#1 else 0#1 := by decide +kernel

/-- The kernel's word of a column group. -/
theorem group_word : ∀ t : Fin 32, ∀ j : Fin 4,
    Scalar.addi (Scalar.muli (BitVec.ofNat 32 t.val) 4#32) (BitVec.ofNat 32 j.val) = BitVec.ofNat 32 (4 * t.val + j.val) := by
  decide +kernel

/-- One column group of the point's product, `⊥` past the vocabulary's end. -/
def colOf (t : ℕ) (xp : S192x7168.Idx → EReal) (wd : S7168x512.Idx → EReal) (j : Fin 4) : S192x128.Idx → EReal := fun y =>
  if 4 * t + j.val < 125 then ∑ k : Fin 7168, xp (ix2 (y 0) k) * wd (ix2 k ⟨128 * j.val + (y 1).val, by have := idx2_lt1 y; omega⟩)
  else ⊥

/-- The point's product read at a row and a column. -/
theorem acc_apply (xp : FVec Ideal S192x7168 .bf16) (wd : FVec Ideal S7168x512 .bf16) (r : Fin 192) (q : Fin 512) :
    k0_pay1751 (F := Ideal) xp wd (ix2 r q) = ∑ k : Fin 7168, xp (ix2 r k) * wd (ix2 k q) := by
  have h := Ideal.matmul_plain_apply (M := 192) (K := 7168) (N := 512) (φ₁ := .bf16) (φ₂ := .bf16) none xp wd
    (constant S192x512 .f32 0x00000000#32) r q
  rw [show constant (F := Ideal) S192x512 .f32 0x00000000#32 (ix2 r q) = 0 from Ideal.ofBits_zero_f32, zero_add] at h
  exact h

/-- The masked slice of the product for a column group, as the kernel takes it. -/
theorem col_apply (t : Fin 32) (j : Fin 4) (off : Fin 2 → ℕ) (ho : off = ![0, 128 * j.val]) (xp : FVec Ideal S192x7168 .bf16)
    (wd : FVec Ideal S7168x512 .bf16) (hs : S192x512.Slices off S192x128) (b : BitVec 32) (hb : b = BitVec.ofNat 32 j.val) :
    Scalar.select (Scalar.cmpi .slt (Scalar.addi (Scalar.muli (BitVec.ofNat 32 t.val) 4#32) b) 125#32)
      (extractStridedSlice S192x128 off (k0_pay1751 (F := Ideal) xp wd) hs)
      (broadcast S192x128 (Scalar.ofBits (F := Ideal) .f32 0xFF800000#32)) = colOf t.val xp wd j := by
  subst ho hb
  rw [group_lt]
  funext y
  unfold colOf
  by_cases h : 4 * t.val + j.val < 125
  · rw [if_pos h, if_pos h]
    refine Eq.trans ?_ (acc_apply xp wd (y 0) ⟨128 * j.val + (y 1).val, by have := idx2_lt1 y; omega⟩)
    show extractStridedSlice S192x128 ![0, 128 * j.val] (k0_pay1751 (F := Ideal) xp wd) hs y = _
    refine congrArg (k0_pay1751 (F := Ideal) xp wd) ((eq_ix2 _).trans ?_)
    congr 1
    · apply Fin.ext; show 0 + (y 0).val = _; omega
  · rw [if_neg h, if_neg h]
    exact ofBits_ninf

variable (t : Fin 32) (xp : FVec Ideal S192x7168 .bf16) (wd : FVec Ideal S7168x512 .bf16) (v : Fin 192 → Fin 128 → ℕ → EReal)
  (hv : ∀ (j : Fin 4) (y : S192x128.Idx), colOf t.val xp wd j y = v (y 0) (y 1) (4 * t.val + j.val))

/-- The point's logits of its first 128 columns, with the columns past the vocabulary masked. -/
theorem pay1752_eq : k0_pay1752 (F := Ideal) (BitVec.ofNat 32 t.val) xp wd = colOf t.val xp wd 0 :=
  col_apply t 0 _ rfl xp wd _ _ rfl

/-- The point's logits of its second 128 columns, with the columns past the vocabulary masked. -/
theorem pay1756_eq : k0_pay1756 (F := Ideal) (BitVec.ofNat 32 t.val) xp wd = colOf t.val xp wd 1 :=
  col_apply t 1 _ rfl xp wd _ _ rfl

/-- The point's logits of its third 128 columns, with the columns past the vocabulary masked. -/
theorem pay1758_eq : k0_pay1758 (F := Ideal) (BitVec.ofNat 32 t.val) (k0_pay1751 xp wd) = colOf t.val xp wd 2 :=
  col_apply t 2 _ rfl xp wd _ _ rfl

/-- The point's logits of its fourth 128 columns, with the columns past the vocabulary masked. -/
theorem pay1760_eq : k0_pay1760 (F := Ideal) (BitVec.ofNat 32 t.val) (k0_pay1751 xp wd) = colOf t.val xp wd 3 :=
  col_apply t 3 _ rfl xp wd _ _ rfl

include hv

/-- One point moves the largest values on by four column groups. -/
theorem m1_step : m1Of (F := Ideal) (BitVec.ofNat 32 t.val) xp wd (fun y => stM1 (v (y 0) (y 1)) (4 * t.val))
    = fun y => stM1 (v (y 0) (y 1)) (4 * t.val + 4) := by
  unfold m1Of k0_pay1761 k0_pay1759 k0_pay1757 k0_pay1754
  simp only [shapeCast_self, pay1752_eq, pay1756_eq, pay1758_eq, pay1760_eq]
  funext y
  show max (max (max (max (stM1 _ _) (colOf _ _ _ 0 y)) (colOf _ _ _ 1 y)) (colOf _ _ _ 2 y)) (colOf _ _ _ 3 y) = _
  simp only [hv]
  rfl

/-- One point moves the second largest values on by four column groups. -/
theorem m2_step : m2Of (F := Ideal) (BitVec.ofNat 32 t.val) xp wd (fun y => stM1 (v (y 0) (y 1)) (4 * t.val))
      (fun y => stM2 (v (y 0) (y 1)) (4 * t.val))
    = fun y => stM2 (v (y 0) (y 1)) (4 * t.val + 4) := by
  unfold m2Of k0_pay1762 k0_pay1759 k0_pay1757 k0_pay1754 k0_pay1753
  simp only [shapeCast_self, pay1752_eq, pay1756_eq, pay1758_eq, pay1760_eq]
  funext y
  show max (max (max (max (stM2 _ _) (min (stM1 _ _) (colOf _ _ _ 0 y)))
    (min (max (stM1 _ _) (colOf _ _ _ 0 y)) (colOf _ _ _ 1 y)))
    (min (max (max (stM1 _ _) (colOf _ _ _ 0 y)) (colOf _ _ _ 1 y)) (colOf _ _ _ 2 y)))
    (min (max (max (max (stM1 _ _) (colOf _ _ _ 0 y)) (colOf _ _ _ 1 y)) (colOf _ _ _ 2 y)) (colOf _ _ _ 3 y)) = _
  simp only [hv]
  rfl

/-- One point moves the places of the largest values on by four column groups. -/
theorem ix_step : ixOf (F := Ideal) (BitVec.ofNat 32 t.val) xp wd (fun y => stM1 (v (y 0) (y 1)) (4 * t.val))
      (fun y => stIx (v (y 0) (y 1)) (4 * t.val))
    = fun y => stIx (v (y 0) (y 1)) (4 * t.val + 4) := by
  unfold ixOf k0_pay1763 k0_pay1759 k0_pay1757 k0_pay1754 k0_pay1755
  simp only [shapeCast_self, pay1752_eq, pay1756_eq, pay1758_eq, pay1760_eq]
  funext y
  have e : ∀ (a b : EReal) (p q : BitVec 32), Scalar.select (Ideal.cmp .ogt a b) p q = if b < a then p else q := by
    intro a b p q
    by_cases h : b < a
    · rw [if_pos h]; simp [Scalar.select, Ideal.cmp, h]
    · rw [if_neg h]; simp [Scalar.select, Ideal.cmp, h]
  show Scalar.select (Ideal.cmp .ogt (colOf _ _ _ 3 y) (max (max (max (stM1 _ _) (colOf _ _ _ 0 y)) (colOf _ _ _ 1 y)) (colOf _ _ _ 2 y))) _
    (Scalar.select (Ideal.cmp .ogt (colOf _ _ _ 2 y) (max (max (stM1 _ _) (colOf _ _ _ 0 y)) (colOf _ _ _ 1 y))) _
      (Scalar.select (Ideal.cmp .ogt (colOf _ _ _ 1 y) (max (stM1 _ _) (colOf _ _ _ 0 y))) _
        (Scalar.select (Ideal.cmp .ogt (colOf _ _ _ 0 y) (stM1 _ _)) _ (stIx _ _)))) = _
  simp only [hv, e]
  show (if _ then Scalar.addi _ (BitVec.ofNat 32 (3 : Fin 4).val) else if _ then Scalar.addi _ (BitVec.ofNat 32 (2 : Fin 4).val)
    else if _ then Scalar.addi _ (BitVec.ofNat 32 (1 : Fin 4).val) else if _ then Scalar.addi _ (BitVec.ofNat 32 (0 : Fin 4).val) else _) = _
  simp only [group_word]
  rfl

end Cert.KI

end
-- ==== Proof.KI.Nibble.lean ====
/-
  Four-bit codes in words: the kernel's shifts of a packed word and the reference's mask and shift of a byte both give
  the code less eight.
-/
module

public import Idealize.ShloMosaic.Lib.BitcastFour

@[expose] public section

set_option maxRecDepth 16384

noncomputable section

namespace Cert.KI

open Idealize.ShloMosaic

/-- The kernel's two shifts of a word with every code's top bit flipped: the code at place `e`, flipped and sign-extended. -/
theorem word_nib (w : BitVec 32) (e : Fin 8) :
    IntOp.shrsi .vector (IntOp.shli .vector (IntOp.xori w 2290649224#32) (IntOp.subi 28#32 (IntOp.muli 4#32 (BitVec.ofNat 32 e.val)))) 28#32
      = ((w.extractLsb' (4 * e.val) 4) ^^^ 8#4).signExtend 32 := by
  have h : IntOp.shrsi .vector (IntOp.shli .vector (IntOp.xori w 2290649224#32) (IntOp.subi 28#32 (IntOp.muli 4#32 (BitVec.ofNat 32 e.val)))) 28#32
      = ((w ^^^ 2290649224#32) <<< (28 - 4 * e.val)).sshiftRight 28 := by
    fin_cases e <;> rfl
  rw [h]
  apply BitVec.eq_of_getLsbD_eq
  intro i hi
  have hc : ∀ (e : Fin 8) (k : Fin 4), (2290649224#32).getLsbD (4 * e.val + k.val) = (8#4).getLsbD k.val := by decide
  have he := e.isLt
  rw [BitVec.getLsbD_sshiftRight, BitVec.getLsbD_signExtend, BitVec.msb_eq_getLsbD_last, BitVec.msb_eq_getLsbD_last]
  by_cases h4 : i < 4
  · rw [if_pos h4, if_pos (by omega), BitVec.getLsbD_shiftLeft, BitVec.getLsbD_xor,
      show 28 + i - (28 - 4 * e.val) = 4 * e.val + i by omega, hc e ⟨i, h4⟩, BitVec.getLsbD_xor, BitVec.getLsbD_extractLsb']
    have h1 : 28 + i < 32 := by omega
    have h2 : ¬ 28 + i < 28 - 4 * e.val := by omega
    simp [h4, hi, h1, h2]
  · rw [if_neg h4, if_neg (by omega), BitVec.getLsbD_shiftLeft, BitVec.getLsbD_xor,
      show 32 - 1 - (28 - 4 * e.val) = 4 * e.val + 3 by omega, show 4 * e.val + 3 = 4 * e.val + (3 : Fin 4).val from rfl,
      hc e 3, BitVec.getLsbD_xor, BitVec.getLsbD_extractLsb']
    have h2 : ¬ 31 < 28 - 4 * e.val := by omega
    simp [hi, h2]

/-- The code at place `e` of a word of four bytes is that of its byte. -/
theorem nib_byte (w : BitVec 32) (b : BitVec 8) (e : Fin 8)
    (h : ∀ i, i < 8 → w.getLsbD (8 * (e.val / 2) + i) = b.getLsbD i) :
    w.extractLsb' (4 * e.val) 4 = b.extractLsb' (4 * (e.val % 2)) 4 := by
  apply BitVec.eq_of_getLsbD_eq
  intro i hi
  rw [BitVec.getLsbD_extractLsb', BitVec.getLsbD_extractLsb', ← h _ (by omega)]
  congr 2
  omega

/-- A byte's code at place `h`, as a number, less eight. -/
def nib (b : BitVec 8) (h : ℕ) : ℤ := ((b.extractLsb' (4 * h) 4).toNat : ℤ) - 8

/-- The flipped, sign-extended code is the code less eight. -/
theorem toInt_flip : ∀ n : BitVec 4, ((n ^^^ 8#4).signExtend 32).toInt = (n.toNat : ℤ) - 8 := by decide +kernel

/-- The reference's low code of a byte. -/
theorem toInt_low : ∀ b : BitVec 8, (IntOp.subi (IntOp.andi (b.setWidth 32) 15#32) 8#32).toInt = nib b 0 := by
  unfold nib; decide +kernel

/-- The reference's high code of a byte. -/
theorem toInt_high : ∀ b : BitVec 8, (IntOp.subi (IntOp.shrsi .host (b.setWidth 32) 4#32) 8#32).toInt = nib b 1 := by
  unfold nib; decide +kernel

end Cert.KI

end
-- ==== Proof.KI.Weights.lean ====
/-
  The permuted activations and the dequantized weights, over the extended reals, read at an element.
-/
module

public import proofs.«01_k».proof.Proof.KI.Spec
public import proofs.«01_k».proof.Proof.KI.Nibble
public import Idealize.ShloMosaic.Lib.Pointwise
public import Idealize.ShloMosaic.Lib.ValueIdx
public import Idealize.ShloMosaic.Lib.ValueLayout
public import Idealize.ShloMosaic.Lib.BitcastFour

@[expose] public section

set_option maxRecDepth 16384

noncomputable section

namespace Cert.KI

open Cert.KernelIdeal Cert.KernelIdeal.Gen
open Idealize.ShloMosaic

/-- The lane the permutation reads: within a run of 32, the even lanes take the first half and the odd ones the second. -/
def perm (p : ℕ) : ℕ := p / 32 * 32 + p % 32 / 2 + p % 2 * 16

/-- The permutation keeps a register's lanes in range. -/
theorem perm_lt (p : Fin 128) : perm p.val < 128 := by unfold perm; omega

/-- One permuted tile of activations at an element. -/
theorem pay6_apply (Y : S16x128.Idx → EReal) (a : Fin 16) (p : Fin 128) :
    k0_pay6 (F := Ideal) Y (ix2 a p) = Y (ix2 a ⟨perm p.val, perm_lt p⟩) := by
  pointwise [k0_pay6, k0_pay5]
  congr 2
  apply Fin.ext
  dsimp only
  clear Y a
  revert p
  decide +kernel

/-- A scale row spread over its sixteen half rows. -/
theorem pay997_apply (Y : S1x2x512.Idx → EReal) (a : Fin 16) (p : Fin 512) :
    k0_pay997 (F := Ideal) Y (ix2 a p) = Y (ix3 0 0 p) ∨ k0_pay997 (F := Ideal) Y (ix2 a p) = Y (ix3 0 1 p) := by
  pointwise [k0_pay997]
  split_ifs <;> first | exact Or.inl rfl | exact Or.inr rfl

/-- One unpacked tile of codes at an element: the code of the byte that holds it, less eight. -/
theorem pay996_apply (Y : S512x128.Idx → BitVec 8) (a : Fin 256) (p : Fin 512) :
    k0_pay996 (F := Ideal) Y (ix2 a p)
      = ((nib (Y (ix2 p ⟨a.val / 2, by omega⟩)) (a.val % 2) : ℝ) : EReal) := by
  pointwise [k0_pay996]
  refine congrArg (fun n : ℤ => ((n : ℝ) : EReal)) ?_
  have hb : ∀ i, i < 8 → (bitcast S32x512 32 (transpose S128x512 [1, 0] Y transposes_S512x128_p1_0_S128x512)
      bitcasts_S128x512_w8_S32x512_w32 (ix2 ⟨a.val / 8, by omega⟩ p)).getLsbD (8 * (a.val % 8 / 2) + i)
        = (Y (ix2 p ⟨a.val / 2, by omega⟩)).getLsbD i := by
    intro i hi
    rw [ix2_eq_valueIdx]
    rw [bitcast_8_32_getLsbD_ix2 _ bitcasts_S128x512_w8_S32x512_w32 ⟨a.val / 8, by omega⟩ p _ (by omega)
      (⟨a.val / 2, by omega⟩ : Fin 128) (by dsimp only; omega), ← ix2_eq_valueIdx]
    pointwise
    rw [show (8 * (a.val % 8 / 2) + i) % 8 = i by omega]
  have h1 := word_nib (bitcast S32x512 32 (transpose S128x512 [1, 0] Y transposes_S512x128_p1_0_S128x512)
      bitcasts_S128x512_w8_S32x512_w32 (ix2 ⟨a.val / 8, by omega⟩ p)) ⟨a.val % 8, by omega⟩
  rw [nib_byte _ (Y (ix2 p ⟨a.val / 2, by omega⟩)) ⟨a.val % 8, by omega⟩ hb] at h1
  refine (congrArg BitVec.toInt h1).trans ?_
  rw [toInt_flip]
  unfold nib
  rw [show a.val % 8 % 2 = a.val % 2 by omega]

/-- The transposed, doubled scales at an element. -/
theorem pay995_apply (Y : S512x224.Idx → EReal) (a : Fin 224) (h : Fin 2) (p : Fin 512) :
    k0_pay995 (F := Ideal) Y (ix3 a h p) = Y (ix2 p a) := by
  pointwise [k0_pay995]
  split_ifs <;> rfl

/-- The column of the activations that lane `k` of the permuted copy holds. -/
theorem perm_lt_K (k : Fin 7168) : perm k.val < 7168 := by unfold perm; omega

/-- The permuted copy of the activations at an element. -/
theorem xpOf_apply (X : S192x7168.Idx → EReal) (r : Fin 192) (k : Fin 7168) :
    xpOf (F := Ideal) X (ix2 r k) = X (ix2 r ⟨perm k.val, perm_lt_K k⟩) := by
  unfold xpOf
  rw [← ix2_eq_valueIdx]
  refine (pay6_apply _ _ _).trans ?_
  refine congrArg X ?_
  rw [← ix2_eq_valueIdx]
  refine congr (congrArg ix2 (Fin.ext ?_)) (Fin.ext ?_)
  · show 16 * (r.val / 16) + r.val % 16 = r.val
    omega
  · show 128 * (k.val / 128) + perm (k.val % 128) = perm k.val
    unfold perm
    omega

/-- The dequantized weights at an element. -/
theorem wdOf_apply (X : S512x3584.Idx → BitVec 8) (S : S512x224.Idx → EReal) (k : Fin 7168) (q : Fin 512) :
    wdOf (F := Ideal) X (k0_pay995 S) (ix2 k q)
      = ((nib (X (ix2 q ⟨k.val / 2, by omega⟩)) (k.val % 2) : ℝ) : EReal) * S (ix2 q ⟨k.val / 32, by omega⟩) := by
  unfold wdOf
  simp only [← ix2_eq_valueIdx, ← ix3_eq_valueIdx]
  refine congr (congrArg (fun a b : EReal => a * b) ?_) ?_
  · refine (pay996_apply _ _ _).trans ?_
    show ((nib (X (ValueIdx.ix2 q ⟨128 * (k.val / 256) + k.val % 256 / 2, by omega⟩)) (k.val % 256 % 2) : ℝ) : EReal) = _
    rw [← ix2_eq_valueIdx, show k.val % 256 % 2 = k.val % 2 by omega,
      show (⟨128 * (k.val / 256) + k.val % 256 / 2, by omega⟩ : Fin 3584) = ⟨k.val / 2, by omega⟩ from Fin.ext (by dsimp only; omega)]
  · rcases pay997_apply (fun z => k0_pay995 (F := Ideal) S (ix3 ⟨k.val / 32, by omega⟩ (z 1) (z 2))) ⟨k.val % 16, by omega⟩ q with h | h
    · exact h.trans (pay995_apply S _ _ _)
    · exact h.trans (pay995_apply S _ _ _)

end Cert.KI

end
-- ==== Proof.KI.Logits.lean ====
/-
  The logits as a plain sum over the arrays, the sequence of logits each lane of the kernel runs through, and that the
  product a point of the grid computes is that sequence's next four values.
-/
module

public import proofs.«01_k».proof.Proof.KI.Step
public import proofs.«01_k».proof.Proof.KI.Weights

@[expose] public section

set_option maxRecDepth 16384

noncomputable section

namespace Cert.KI

open Cert.KernelIdeal Cert.KernelIdeal.Gen
open Idealize.ShloMosaic
open scoped BigOperators

variable (A0 : S192x1x7168.Idx → EReal) (A1 : S16000x3584.Idx → BitVec 8) (A2 : S16000x224.Idx → EReal)

/-- The dequantized weight of vocabulary entry `v` at place `k`: the code times its group's scale. -/
def wt (v : Fin 16000) (k : Fin 7168) : EReal :=
  ((nib (A1 (ix2 v ⟨k.val / 2, by omega⟩)) (k.val % 2) : ℝ) : EReal) * A2 (ix2 v ⟨k.val / 32, by omega⟩)

/-- The logit of row `r` and vocabulary entry `v`. -/
def Lg (r : Fin 192) (v : Fin 16000) : EReal :=
  ∑ k : Fin 7168, A0 (ix3 r 0 ⟨perm k.val, perm_lt_K k⟩) * wt A1 A2 v k

/-- The logits lane `l` of row `r` runs through: those of the entries `l`, `128 + l`, …; `⊥` past the vocabulary's end. -/
def lane (r : Fin 192) (l : Fin 128) (n : ℕ) : EReal :=
  if h : n < 125 then Lg A0 A1 A2 r ⟨128 * n + l.val, by omega⟩ else ⊥

/-- The product of a point, from staged blocks that hold the arrays' entries wherever the vocabulary has them, gives the
    lanes' next four logits. -/
theorem colOf_eq (t : Fin 32) (X1 : S192x7168.Idx → EReal) (X2 : S512x3584.Idx → BitVec 8) (X3 : S512x224.Idx → EReal)
    (h1 : ∀ (r : Fin 192) (k : Fin 7168), X1 (ix2 r k) = A0 (ix3 r 0 k))
    (h2 : ∀ (q : Fin 512) (b : Fin 3584) (h : 512 * t.val + q.val < 16000), X2 (ix2 q b) = A1 (ix2 ⟨512 * t.val + q.val, h⟩ b))
    (h3 : ∀ (q : Fin 512) (b : Fin 224) (h : 512 * t.val + q.val < 16000), X3 (ix2 q b) = A2 (ix2 ⟨512 * t.val + q.val, h⟩ b))
    (j : Fin 4) (y : S192x128.Idx) :
    colOf t.val (xpOf (F := Ideal) X1) (wdOf (F := Ideal) X2 (k0_pay995 X3)) j y
      = lane A0 A1 A2 (y 0) (y 1) (4 * t.val + j.val) := by
  have hy : (y 1).val < 128 := (y 1).isLt
  unfold colOf lane
  by_cases h : 4 * t.val + j.val < 125
  · rw [if_pos h, dif_pos h]
    unfold Lg
    refine Finset.sum_congr rfl fun k _ => ?_
    refine congr (congrArg (fun a b : EReal => a * b) ?_) ?_
    · exact (congrArg (xpOf (F := Ideal) X1) (ix2_eq_valueIdx (y 0) k).symm).trans <| (xpOf_apply X1 (y 0) k).trans (h1 _ _)
    · refine (congrArg (wdOf (F := Ideal) X2 (k0_pay995 X3)) (ix2_eq_valueIdx k ⟨128 * j.val + (y 1).val, by omega⟩).symm).trans ?_
      refine (wdOf_apply X2 X3 k ⟨128 * j.val + (y 1).val, by omega⟩).trans ?_
      have hq : 512 * t.val + (128 * j.val + (y 1).val) < 16000 := by omega
      have e : (⟨128 * (4 * t.val + j.val) + (y 1).val, by omega⟩ : Fin 16000) = ⟨512 * t.val + (128 * j.val + (y 1).val), hq⟩ :=
        Fin.ext (by dsimp only; omega)
      rw [h2 _ _ hq, h3 _ _ hq]
      show _ = wt A1 A2 ⟨128 * (4 * t.val + j.val) + (y 1).val, _⟩ k
      rw [e]
      rfl
  · rw [if_neg h, dif_neg h]

end Cert.KI

end
-- ==== Proof.KI.Blocks.lean ====
/-
  What the input windows' staged blocks hold, read at an element: the whole of the reshaped activations, and at each
  point the 512 vocabulary rows of the codes and of the scales, as far as the vocabulary reaches.
-/
module

public import proofs.«01_k».proof.Proof.KI.Base
public import Idealize.ShloMosaic.Lib.Pointwise
public import Idealize.ShloMosaic.Lib.StableHlo
public import Idealize.ShloMosaic.Lib.Tactic

@[expose] public section

set_option maxRecDepth 16384

noncomputable section

namespace Cert.KI

open Cert.KernelIdeal Cert.KernelIdeal.Gen
open Idealize.ShloMosaic
open Idealize.ShloMosaic.TcCoe

variable {F : FTy → Type} [FloatOps F]

variable (m : (ℓ : Loc nD τ sig) → Buf (Elt F) ℓ)

/-- The grid's points as numbers below 32. -/
abbrev pnt (t : Fin cfg0.N) : Fin 32 := ⟨t.val, N_0 ▸ t.isLt⟩

/-- The windows' index maps and cuts, at every point. -/
theorem geom1 : ∀ t : Fin grid0.N, win0_1.kind.off (win0_1.indexMap (grid0.coords t) 0) (win0_1.size 0) = 512 * t.val
    ∧ win0_1.kind.off (win0_1.indexMap (grid0.coords t) 1) (win0_1.size 1) = 0
    ∧ win0_1.xsize (grid0.coords t) 0 = min 512 (16000 - 512 * t.val) ∧ win0_1.xsize (grid0.coords t) 1 = 3584 := by
  decide +kernel

/-- The same of the scales' window. -/
theorem geom2 : ∀ t : Fin grid0.N, win0_2.kind.off (win0_2.indexMap (grid0.coords t) 0) (win0_2.size 0) = 512 * t.val
    ∧ win0_2.kind.off (win0_2.indexMap (grid0.coords t) 1) (win0_2.size 1) = 0
    ∧ win0_2.xsize (grid0.coords t) 0 = min 512 (16000 - 512 * t.val) ∧ win0_2.xsize (grid0.coords t) 1 = 224 := by
  decide +kernel

/-- The staged codes at a row the vocabulary has. -/
theorem fill1 (c : Dev nD) (t : Fin cfg0.N) (d : S512x3584.Idx → Elt F .i8) (q : Fin 512) (b : Fin 3584)
    (h : 512 * t.val + q.val < 16000) :
    win0_1.fill (grid0.coords t) d (iblk m c 1 t) (ix2 q b) = m ((c : Thread nD τ).loc main_arg1) (ix2 (n0 := 16000) ⟨512 * t.val + q.val, h⟩ b) := by
  obtain ⟨g0, g1, g2, g3⟩ := geom1 t
  have hm : win0_1.moved (grid0.coords t) (ix2 q b) = true := by
    rw [Pipeline.Window.moved_iff]
    intro a
    match a with
    | ⟨0, _⟩ => exact lt_of_lt_of_eq (show q.val < _ by have := q.isLt; omega) g2.symm
    | ⟨1, _⟩ => exact lt_of_lt_of_eq b.isLt g3.symm
  unfold Pipeline.Window.fill
  rw [dif_pos hm]
  rw [← V_main_arg1 m c]
  refine congrArg (V m c main_arg1) (funext fun a => Fin.ext ?_)
  match a with
  | ⟨0, _⟩ =>
    show win0_1.kind.off (win0_1.indexMap (grid0.coords t) 0) (win0_1.size 0) + 1 * q.val = 512 * t.val + q.val
    rw [g0, Nat.one_mul]
  | ⟨1, _⟩ =>
    show win0_1.kind.off (win0_1.indexMap (grid0.coords t) 1) (win0_1.size 1) + 1 * b.val = b.val
    rw [g1, Nat.one_mul, Nat.zero_add]

/-- The staged scales at a row the vocabulary has. -/
theorem fill2 (c : Dev nD) (t : Fin cfg0.N) (d : S512x224.Idx → Elt F .bf16) (q : Fin 512) (b : Fin 224)
    (h : 512 * t.val + q.val < 16000) :
    win0_2.fill (grid0.coords t) d (iblk m c 2 t) (ix2 q b) = m ((c : Thread nD τ).loc main_arg2) (ix2 (n0 := 16000) ⟨512 * t.val + q.val, h⟩ b) := by
  obtain ⟨g0, g1, g2, g3⟩ := geom2 t
  have hm : win0_2.moved (grid0.coords t) (ix2 q b) = true := by
    rw [Pipeline.Window.moved_iff]
    intro a
    match a with
    | ⟨0, _⟩ => exact lt_of_lt_of_eq (show q.val < _ by have := q.isLt; omega) g2.symm
    | ⟨1, _⟩ => exact lt_of_lt_of_eq b.isLt g3.symm
  unfold Pipeline.Window.fill
  rw [dif_pos hm]
  rw [← V_main_arg2 m c]
  refine congrArg (V m c main_arg2) (funext fun a => Fin.ext ?_)
  match a with
  | ⟨0, _⟩ =>
    show win0_2.kind.off (win0_2.indexMap (grid0.coords t) 0) (win0_2.size 0) + 1 * q.val = 512 * t.val + q.val
    rw [g0, Nat.one_mul]
  | ⟨1, _⟩ =>
    show win0_2.kind.off (win0_2.indexMap (grid0.coords t) 1) (win0_2.size 1) + 1 * b.val = b.val
    rw [g1, Nat.one_mul, Nat.zero_add]

/-- Dropping the middle axis of extent one. -/
theorem reshape_apply {α : Type} (Y : S192x1x7168.Idx → α) (r : Fin 192) (k : Fin 7168) :
    shapeCast S192x7168 Y shapeCasts_S192x1x7168_S192x7168 (ix2 r k) = Y (ix3 r 0 k) := by
  pointwise

/-- The region finds the activations reshaped to two axes. -/
theorem V_v0 (c : Dev nD) (r : Fin 192) (k : Fin 7168) :
    V m c main_v0 (ix2 (n0 := 192) (n1 := 7168) r k) = m ((c : Thread nD τ).loc main_arg0) (ix3 (n0 := 192) (n1 := 1) (n2 := 7168) r 0 k) := by
  have e : (V m c main_v0 : S192x7168.Idx → Elt F .bf16)
      = shapeCast S192x7168 (m ((c : Thread nD τ).loc main_arg0) : S192x1x7168.Idx → Elt F .bf16) shapeCasts_S192x1x7168_S192x7168 := rfl
  rw [e]
  exact reshape_apply _ r k

/-- The staged activations are the same block at every point: all of them. -/
theorem iblk0 (c : Dev nD) (t : Fin cfg0.N) : iblk m c 0 t = V m c main_v0 := by
  funext z
  refine congrArg (V m c main_v0) (funext fun a => Fin.ext ?_)
  match a with
  | ⟨0, _⟩ => show 0 + 1 * (z 0).val = (z 0).val; omega
  | ⟨1, _⟩ => show 0 + 1 * (z 1).val = (z 1).val; omega

end Cert.KI

end
-- ==== Proof.KI.Sound.lean ====
/-
  The kernel over the extended reals, run: the proof data of its pipeline (between the points of the grid the scratch
  buffers hold the permuted activations and each lane's running pair of largest logits and the place of the largest),
  the body's obligation at every point, and what the launch leaves: the three results as functions of the lanes'
  final state, the arguments unchanged, every semaphore counter at zero.
-/
module

public import proofs.«01_k».proof.Proof.KI.BodyFirst
public import proofs.«01_k».proof.Proof.KI.BodyMid
public import proofs.«01_k».proof.Proof.KI.BodyLast
public import proofs.«01_k».proof.Proof.KI.Logits
public import proofs.«01_k».proof.Proof.KI.Blocks
public import Idealize.ShloMosaic.Lib.Pipeline.KitQuiescent

@[expose] public section

set_option maxRecDepth 16384
set_option maxHeartbeats 1000000

noncomputable section

namespace Cert.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The proof's resource algebra: one copy of the pipeline's. -/
abbrev EP : Emb (UR sig nD τ) (MT nD τ sig Unit (Elt Ideal) ℕ (UR sig nD τ) ℕ) := emb₁

/-- The kernel's variants: none. -/
abbrev 𝒱₀ : Variants := Variants.none

variable (m : (ℓ : Loc nD τ sig) → Buf (Elt Ideal) ℓ) (ρ : Dev nD → PrngReg)

/-- The activations on core `c`. -/
abbrev arr0 (c : Dev nD) : S192x1x7168.Idx → EReal := m ((c : Thread nD τ).loc main_arg0)
/-- The packed codes. -/
abbrev arr1 (c : Dev nD) : S16000x3584.Idx → BitVec 8 := m ((c : Thread nD τ).loc main_arg1)
/-- The scales. -/
abbrev arr2 (c : Dev nD) : S16000x224.Idx → EReal := m ((c : Thread nD τ).loc main_arg2)

/-- The logits lane `l` of row `r` runs through, on core `c`. -/
def ln (c : Dev nD) (r : Fin 192) (l : Fin 128) : ℕ → EReal := lane (arr0 m c) (arr1 m c) (arr2 m c) r l

/-- The permuted activations. -/
def sXp (c : Dev nD) : S192x7168.Idx → EReal := xpOf (F := Ideal) (V m c main_v0)

/-- The lanes' largest logits after `n` of their values. -/
def sM1 (c : Dev nD) (n : ℕ) : S192x128.Idx → EReal := fun y => stM1 (ln m c (y 0) (y 1)) n
/-- The lanes' second largest logits after `n` of their values. -/
def sM2 (c : Dev nD) (n : ℕ) : S192x128.Idx → EReal := fun y => stM2 (ln m c (y 0) (y 1)) n
/-- The places of the lanes' largest logits after `n` of their values. -/
def sIx (c : Dev nD) (n : ℕ) : S192x128.Idx → BitVec 32 := fun y => stIx (ln m c (y 0) (y 1)) n

/-- The lanes' numbers. -/
abbrev lanes : IVec S192x128 32 := iota .tc S192x128 32 [1] iota_S192x128_d1_w32

/-- The tokens the last point computes from the lanes' final state. -/
def oTok (c : Dev nD) : S192x1.Idx → BitVec 32 := k0_pay3 (F := Ideal) lanes (sM1 m c 128) (sIx m c 128)
/-- The margins the last point computes. -/
def oMar (c : Dev nD) : S192x1.Idx → EReal := k0_pay4 (F := Ideal) lanes (sM1 m c 128) (sIx m c 128) (sM2 m c 128)
/-- The greatest logits the last point computes. -/
def oTop (c : Dev nD) : S192x1.Idx → EReal := k0_pay2 (F := Ideal) (sM1 m c 128)

/-- What the scratch buffers hold before point `n`: anything before the first. -/
def inv (c : Dev nD) (n : ℕ) : sProp 𝕄 :=
  if n = 0 then Pipeline.scopedRest spec0 c
  else iprop(owns (c : Thread nD τ) (Memref.whole cc0_scratch0) fullShare (sXp m c)
    ∗ (∃ f, pt (F := Ideal) c (Memref.whole cc0_scratch1) f) ∗ (∃ f, pt (F := Ideal) c (Memref.whole cc0_scratch2) f)
    ∗ owns (c : Thread nD τ) (Memref.whole cc0_scratch3) fullShare (sM1 m c (4 * n))
    ∗ owns (c : Thread nD τ) (Memref.whole cc0_scratch4) fullShare (sM2 m c (4 * n))
    ∗ owns (c : Thread nD τ) (Memref.whole cc0_scratch5) fullShare (sIx m c (4 * n)))

/-- The proof data: the arrays as the region finds them; after the body an input window's buffer holds its block, past
    the array's end an arbitrary word, and an output window's buffer the result; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => 0#8) (iblk m c 1 t)
    | ⟨2, _⟩ => win0_2.fill (grid0.coords t) (fun _ => (0 : EReal)) (iblk m c 2 t)
    | ⟨3, _⟩ => oTok m c
    | ⟨4, _⟩ => oMar m c
    | ⟨5, _⟩ => oTop m c
  Φ t := inv m c t.val
  q _ := fullShare
  owed _ := 0

/-- The body's two conditions and its point's number, and when an output window is idle, at every point. -/
theorem point_facts : ∀ t : Fin grid0.N, (cond1 (grid0.coords t) = 1#1 ↔ t.val = 0) ∧ (k0_cond2 (grid0.coords t) = 1#1 ↔ t.val = 31)
    ∧ (grid0.coords t 0).val = t.val := by
  decide +kernel

variable {m} in
/-- What a point's product gives the lanes, with the point's staged blocks. -/
theorem point_cols (c : Dev nD) (t : Fin cfg0.N) (d1 : S512x3584.Idx → BitVec 8) (d2 : S512x224.Idx → EReal) (j : Fin 4) (y : S192x128.Idx) :
    colOf (pnt t).val (sXp m c) (wdOf (F := Ideal) (win0_1.fill (grid0.coords t) d1 (iblk m c 1 t))
        (k0_pay995 (win0_2.fill (grid0.coords t) d2 (iblk m c 2 t)))) j y
      = ln m c (y 0) (y 1) (4 * (pnt t).val + j.val) :=
  colOf_eq (arr0 m c) (arr1 m c) (arr2 m c) (pnt t) (V m c main_v0) _ _ (V_v0 m c)
    (fun q b h => fill1 m c t d1 q b h) (fun q b h => fill2 m c t d2 q b h) j y

/-- The state a point leaves, from the state it finds. -/
theorem step_m1 (c : Dev nD) (t : Fin cfg0.N) (d1 : S512x3584.Idx → BitVec 8) (d2 : S512x224.Idx → EReal) :
    m1Of (F := Ideal) (BitVec.ofNat 32 (grid0.coords t 0).val) (sXp m c) (wdOf (F := Ideal) (win0_1.fill (grid0.coords t) d1 (iblk m c 1 t))
        (k0_pay995 (win0_2.fill (grid0.coords t) d2 (iblk m c 2 t)))) (sM1 m c (4 * t.val)) = sM1 m c (4 * (t.val + 1)) := by
  rw [(point_facts t).2.2]
  exact m1_step (pnt t) _ _ (ln m c) (point_cols c t d1 d2)
/-- The second greatest logits a point leaves. -/
theorem step_m2 (c : Dev nD) (t : Fin cfg0.N) (d1 : S512x3584.Idx → BitVec 8) (d2 : S512x224.Idx → EReal) :
    m2Of (F := Ideal) (BitVec.ofNat 32 (grid0.coords t 0).val) (sXp m c) (wdOf (F := Ideal) (win0_1.fill (grid0.coords t) d1 (iblk m c 1 t))
        (k0_pay995 (win0_2.fill (grid0.coords t) d2 (iblk m c 2 t)))) (sM1 m c (4 * t.val)) (sM2 m c (4 * t.val)) = sM2 m c (4 * (t.val + 1)) := by
  rw [(point_facts t).2.2]
  exact m2_step (pnt t) _ _ (ln m c) (point_cols c t d1 d2)
/-- The places of the greatest logits a point leaves. -/
theorem step_ix (c : Dev nD) (t : Fin cfg0.N) (d1 : S512x3584.Idx → BitVec 8) (d2 : S512x224.Idx → EReal) :
    ixOf (F := Ideal) (BitVec.ofNat 32 (grid0.coords t 0).val) (sXp m c) (wdOf (F := Ideal) (win0_1.fill (grid0.coords t) d1 (iblk m c 1 t))
        (k0_pay995 (win0_2.fill (grid0.coords t) d2 (iblk m c 2 t)))) (sM1 m c (4 * t.val)) (sIx m c (4 * t.val)) = sIx m c (4 * (t.val + 1)) := by
  rw [(point_facts t).2.2]
  exact ix_step (pnt t) _ _ (ln m c) (point_cols c t d1 d2)

/-- The values the first point starts the lanes at are those of no logit seen. -/
theorem init_m1 (c : Dev nD) : (k0_pay991 (F := Ideal) : S192x128.Idx → EReal) = sM1 m c (4 * 0) := by
  funext y; exact ofBits_ninf
/-- So are those of the second greatest logits. -/
theorem init_m2 (c : Dev nD) : (k0_pay992 (F := Ideal) : S192x128.Idx → EReal) = sM2 m c (4 * 0) := by
  funext y; exact ofBits_ninf
/-- So are those of the places. -/
theorem init_ix (c : Dev nD) : (k0_pay994 k0_pay993 : S192x128.Idx → BitVec 32) = sIx m c (4 * 0) := by
  funext y; rfl

/-- The body at the first point: it moves the scratch buffers' state on. -/
theorem soundFirst (c : Dev nD) (t : Fin cfg0.N) (h0 : t.val = 0) (d1 : S512x3584.Idx → BitVec 8) (d2 : S512x224.Idx → EReal)
    (X3 : S192x1.Idx → BitVec 32) (X4 X5 : S192x1.Idx → EReal) (Q : PUnit → sProp 𝕄) :
    iprop(inv m c t.val ∗ owns (c : Thread nD τ) (st0_0 t) fullShare (iblk m c 0 t) ∗ owns (c : Thread nD τ) (st0_1 t) fullShare (win0_1.fill (grid0.coords t) d1 (iblk m c 1 t)) ∗ owns (c : Thread nD τ) (st0_2 t) fullShare (win0_2.fill (grid0.coords t) d2 (iblk m c 2 t)) ∗ owns (c : Thread nD τ) (st0_3 t) fullShare (X3) ∗ owns (c : Thread nD τ) (st0_4 t) fullShare (X4) ∗ owns (c : Thread nD τ) (st0_5 t) fullShare (X5)
      ∗ (iprop(inv m c (t.val + 1) ∗ owns (c : Thread nD τ) (st0_0 t) fullShare (iblk m c 0 t) ∗ owns (c : Thread nD τ) (st0_1 t) fullShare (win0_1.fill (grid0.coords t) d1 (iblk m c 1 t)) ∗ owns (c : Thread nD τ) (st0_2 t) fullShare (win0_2.fill (grid0.coords t) d2 (iblk m c 2 t)) ∗ owns (c : Thread nD τ) (st0_3 t) fullShare (X3) ∗ owns (c : Thread nD τ) (st0_4 t) fullShare (X4) ∗ owns (c : Thread nD τ) (st0_5 t) fullShare (X5)) -∗ Q ⟨⟩))
    ⊢ wp frame (wpE (defs₀ (F := Ideal)) Variants.none c none) Set.univ (bodyAt0 (F := Ideal) t) Q := by
  have e1 := step_m1 m c t d1 d2
  have e2 := step_m2 m c t d1 d2
  have e3 := step_ix m c t d1 d2
  rw [h0] at e1 e2 e3
  rw [← init_m1 m c] at e1 e2 e3
  rw [← init_m2 m c] at e2
  rw [← init_ix m c] at e3
  have hx : xpOf (F := Ideal) (iblk m c 0 t) = sXp m c := by rw [iblk0]; rfl
  rw [show inv m c t.val = Pipeline.scopedRest spec0 c from by rw [inv, if_pos h0], scopedRest0_eq]
  rw [show inv m c (t.val + 1) = _ from if_neg (Nat.succ_ne_zero _), h0]
  iintro ⟨⟨⟨%g7, H7⟩, ⟨%g8, H8⟩, ⟨%g9, H9⟩, ⟨%g10, H10⟩, ⟨%g11, H11⟩, ⟨%g12, H12⟩⟩, H1, H2, H3, H4, H5, H6, Hk⟩
  iapply (bodyFirst (F := Ideal) c (grid0.coords t) ((point_facts t).1.mpr h0) (fun h => by have := (point_facts t).2.1.mp h; omega)
    (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
    (iblk m c 0 t) (win0_1.fill (grid0.coords t) d1 (iblk m c 1 t)) (win0_2.fill (grid0.coords t) d2 (iblk m c 2 t)) X3 X4 X5 g7 g8 g9 g10 g11 g12 Set.univ Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H1, H2, H3, H4, H5, H6, H7, H8, H9, H10, H11, H12⟩
  rw [hx, e1, e2, e3]
  iapply Hk
  isplitl [H7 H8 H9 H10 H11 H12]
  · isplitl [H7]; · iexact H7
    isplitl [H8]; · iexact H8
    isplitl [H9]; · iexact H9
    isplitl [H10]; · iexact H10
    isplitl [H11]; · iexact H11
    iexact H12
  isplitl [H1]; · iexact H1
  isplitl [H2]; · iexact H2
  isplitl [H3]; · iexact H3
  isplitl [H4]; · iexact H4
  isplitl [H5]; · iexact H5
  iexact H6

/-- The body at a point between the first and the last: it moves the scratch buffers' state on. -/
theorem soundMid (c : Dev nD) (t : Fin cfg0.N) (h0 : t.val ≠ 0) (h31 : t.val ≠ 31) (d1 : S512x3584.Idx → BitVec 8) (d2 : S512x224.Idx → EReal)
    (X3 : S192x1.Idx → BitVec 32) (X4 X5 : S192x1.Idx → EReal) (Q : PUnit → sProp 𝕄) :
    iprop(inv m c t.val ∗ owns (c : Thread nD τ) (st0_0 t) fullShare (iblk m c 0 t) ∗ owns (c : Thread nD τ) (st0_1 t) fullShare (win0_1.fill (grid0.coords t) d1 (iblk m c 1 t)) ∗ owns (c : Thread nD τ) (st0_2 t) fullShare (win0_2.fill (grid0.coords t) d2 (iblk m c 2 t)) ∗ owns (c : Thread nD τ) (st0_3 t) fullShare (X3) ∗ owns (c : Thread nD τ) (st0_4 t) fullShare (X4) ∗ owns (c : Thread nD τ) (st0_5 t) fullShare (X5)
      ∗ (iprop(inv m c (t.val + 1) ∗ owns (c : Thread nD τ) (st0_0 t) fullShare (iblk m c 0 t) ∗ owns (c : Thread nD τ) (st0_1 t) fullShare (win0_1.fill (grid0.coords t) d1 (iblk m c 1 t)) ∗ owns (c : Thread nD τ) (st0_2 t) fullShare (win0_2.fill (grid0.coords t) d2 (iblk m c 2 t)) ∗ owns (c : Thread nD τ) (st0_3 t) fullShare (X3) ∗ owns (c : Thread nD τ) (st0_4 t) fullShare (X4) ∗ owns (c : Thread nD τ) (st0_5 t) fullShare (X5)) -∗ Q ⟨⟩))
    ⊢ wp frame (wpE (defs₀ (F := Ideal)) Variants.none c none) Set.univ (bodyAt0 (F := Ideal) t) Q := by
  have e1 := step_m1 m c t d1 d2
  have e2 := step_m2 m c t d1 d2
  have e3 := step_ix m c t d1 d2
  rw [show inv m c t.val = _ from if_neg h0, show inv m c (t.val + 1) = _ from if_neg (Nat.succ_ne_zero _)]
  iintro ⟨⟨H7, ⟨%g8, H8⟩, ⟨%g9, H9⟩, H10, H11, H12⟩, H1, H2, H3, H4, H5, H6, Hk⟩
  iapply (bodyMid (F := Ideal) c (grid0.coords t) (fun h => h0 ((point_facts t).1.mp h)) (fun h => h31 ((point_facts t).2.1.mp h))
    (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
    (iblk m c 0 t) (win0_1.fill (grid0.coords t) d1 (iblk m c 1 t)) (win0_2.fill (grid0.coords t) d2 (iblk m c 2 t)) X3 X4 X5 (sXp m c) (sM1 m c (4 * t.val)) (sM2 m c (4 * t.val)) (sIx m c (4 * t.val)) g8 g9 Set.univ Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H1, H2, H3, H4, H5, H6, H7, H8, H9, H10, H11, H12⟩
  rw [e1, e2, e3]
  iapply Hk
  isplitl [H7 H8 H9 H10 H11 H12]
  · isplitl [H7]; · iexact H7
    isplitl [H8]; · iexact H8
    isplitl [H9]; · iexact H9
    isplitl [H10]; · iexact H10
    isplitl [H11]; · iexact H11
    iexact H12
  isplitl [H1]; · iexact H1
  isplitl [H2]; · iexact H2
  isplitl [H3]; · iexact H3
  isplitl [H4]; · iexact H4
  isplitl [H5]; · iexact H5
  iexact H6

/-- The body at the last point: it moves the scratch buffers' state on, and leaves the results in the output windows. -/
theorem soundLast (c : Dev nD) (t : Fin cfg0.N) (h31 : t.val = 31) (d1 : S512x3584.Idx → BitVec 8) (d2 : S512x224.Idx → EReal)
    (X3 : S192x1.Idx → BitVec 32) (X4 X5 : S192x1.Idx → EReal) (Q : PUnit → sProp 𝕄) :
    iprop(inv m c t.val ∗ owns (c : Thread nD τ) (st0_0 t) fullShare (iblk m c 0 t) ∗ owns (c : Thread nD τ) (st0_1 t) fullShare (win0_1.fill (grid0.coords t) d1 (iblk m c 1 t)) ∗ owns (c : Thread nD τ) (st0_2 t) fullShare (win0_2.fill (grid0.coords t) d2 (iblk m c 2 t)) ∗ owns (c : Thread nD τ) (st0_3 t) fullShare (X3) ∗ owns (c : Thread nD τ) (st0_4 t) fullShare (X4) ∗ owns (c : Thread nD τ) (st0_5 t) fullShare (X5)
      ∗ (iprop(inv m c (t.val + 1) ∗ owns (c : Thread nD τ) (st0_0 t) fullShare (iblk m c 0 t) ∗ owns (c : Thread nD τ) (st0_1 t) fullShare (win0_1.fill (grid0.coords t) d1 (iblk m c 1 t)) ∗ owns (c : Thread nD τ) (st0_2 t) fullShare (win0_2.fill (grid0.coords t) d2 (iblk m c 2 t)) ∗ owns (c : Thread nD τ) (st0_3 t) fullShare (oTok m c) ∗ owns (c : Thread nD τ) (st0_4 t) fullShare (oMar m c) ∗ owns (c : Thread nD τ) (st0_5 t) fullShare (oTop m c)) -∗ Q ⟨⟩))
    ⊢ wp frame (wpE (defs₀ (F := Ideal)) Variants.none c none) Set.univ (bodyAt0 (F := Ideal) t) Q := by
  have e1 := step_m1 m c t d1 d2
  have e2 := step_m2 m c t d1 d2
  have e3 := step_ix m c t d1 d2
  have h0 : t.val ≠ 0 := by omega
  rw [show inv m c t.val = _ from if_neg h0, show inv m c (t.val + 1) = _ from if_neg (Nat.succ_ne_zero _)]
  iintro ⟨⟨H7, ⟨%g8, H8⟩, ⟨%g9, H9⟩, H10, H11, H12⟩, H1, H2, H3, H4, H5, H6, Hk⟩
  iapply (bodyLast (F := Ideal) c (grid0.coords t) (fun h => h0 ((point_facts t).1.mp h)) ((point_facts t).2.1.mpr h31)
    (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
    (iblk m c 0 t) (win0_1.fill (grid0.coords t) d1 (iblk m c 1 t)) (win0_2.fill (grid0.coords t) d2 (iblk m c 2 t)) X3 X4 X5 (sXp m c) (sM1 m c (4 * t.val)) (sM2 m c (4 * t.val)) (sIx m c (4 * t.val)) g8 g9 Set.univ Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H1, H2, H3, H4, H5, H6, H7, H8, H9, H10, H11, H12⟩
  rw [e1, e2, e3]
  have t4 : k0_pay3 (F := Ideal) lanes (sM1 m c (4 * (t.val + 1))) (sIx m c (4 * (t.val + 1))) = oTok m c := by
    rw [show 4 * (t.val + 1) = 128 by omega, oTok]
  have t5 : k0_pay4 (F := Ideal) lanes (sM1 m c (4 * (t.val + 1))) (sIx m c (4 * (t.val + 1))) (sM2 m c (4 * (t.val + 1))) = oMar m c := by
    rw [show 4 * (t.val + 1) = 128 by omega, oMar]
  have t6 : k0_pay2 (F := Ideal) (sM1 m c (4 * (t.val + 1))) = oTop m c := by
    rw [show 4 * (t.val + 1) = 128 by omega, oTop]
  rw [t4, t5, t6]
  iapply Hk
  isplitl [H7 H8 H9 H10 H11 H12]
  · isplitl [H7]; · iexact H7
    isplitl [H8]; · iexact H8
    isplitl [H9]; · iexact H9
    isplitl [H10]; · iexact H10
    isplitl [H11]; · iexact H11
    iexact H12
  isplitl [H1]; · iexact H1
  isplitl [H2]; · iexact H2
  isplitl [H3]; · iexact H3
  isplitl [H4]; · iexact H4
  isplitl [H5]; · iexact H5
  iexact H6

end Cert.KI

end
-- ==== Proof.KI.Frame.lean ====
/-
  The kernel over the extended reals: the body's obligation at every point of the grid, and the launch.
-/
module

public import proofs.«01_k».proof.Proof.KI.Sound

@[expose] public section

set_option maxRecDepth 16384
set_option maxHeartbeats 1000000

noncomputable section

namespace Cert.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

attribute [local irreducible] oTok oMar oTop

/-- The output windows are idle, and not written back, at every point but the last. -/
theorem idle_facts : ∀ t : Fin grid0.N, t.val ≠ 31 →
    (idle0 3 (grid0.coords t) = true ∧ idle0 4 (grid0.coords t) = true ∧ idle0 5 (grid0.coords t) = true)
      ∧ ((cfg0.win 3).flush t = false ∧ (cfg0.win 4).flush t = false ∧ (cfg0.win 5).flush t = false) := by
  intro t h
  have h2 : ¬ k0_cond2 (grid0.coords t) = 1#1 := fun e => h ((point_facts t).2.1.mp e)
  have hl : t.val < 32 := N_0 ▸ t.isLt
  have hf : ∀ w : Fin 6, ((cfg0.win w).flush t = true ↔ t.val % 32 = 31) → (cfg0.win w).flush t = false := fun w e =>
    Bool.eq_false_iff.mpr fun hh => by have := e.mp hh; omega
  have hi : (!(k0_cond2 (grid0.coords t) == 1#1)) = true := by simp [h2]
  exact ⟨⟨hi, hi, hi⟩, hf 3 (flush0_3 t), hf 4 (flush0_4 t), hf 5 (flush0_5 t)⟩

/-- The output windows are in use at the last point. -/
theorem live_facts : ∀ t : Fin grid0.N, t.val = 31 →
    idle0 3 (grid0.coords t) = false ∧ idle0 4 (grid0.coords t) = false ∧ idle0 5 (grid0.coords t) = false := by
  intro t h
  have h2 : k0_cond2 (grid0.coords t) = 1#1 := (point_facts t).2.1.mpr h
  have hi : (!(k0_cond2 (grid0.coords t) == 1#1)) = false := by simp [h2]
  exact ⟨hi, hi, hi⟩

/-- The body at a point finds the input windows' buffers at their blocks and the scratch buffers at the state before the
    point, and leaves them at the state after it; the last point leaves the results in the output windows' buffers. -/
theorem body_obligation (c : Dev nD) : BodyObligationLoose (dats m 0 c) (defs₀ (F := Ideal)) 𝒱₀ () Set.univ := fun t => by
  rw [bigSep_W0, bigSep_W0]
  have h0 : ∀ d0, (dats m 0 c).before (0 : Fin 6) t d0 = iblk m c 0 t := fun d0 => before0_0_of m (dats m 0 c) rfl (fun _ => rfl) t d0
  have h1 : ∀ d1, (dats m 0 c).before (1 : Fin 6) t d1 = win0_1.fill (grid0.coords t) d1 (iblk m c 1 t) := fun d1 => by
    unfold Dat.before; rw [if_pos (fetch0_1 t)]; rfl
  have h2 : ∀ d2, (dats m 0 c).before (2 : Fin 6) t d2 = win0_2.fill (grid0.coords t) d2 (iblk m c 2 t) := fun d2 => by
    unfold Dat.before; rw [if_pos (fetch0_2 t)]; rfl
  have hc1 : ∀ d1 : S512x3584.Idx → BitVec 8, win0_1.fill (grid0.coords t) d1 (win0_1.cut (grid0.coords t) (win0_1.fill (grid0.coords t) (fun _ => 0#8) (iblk m c 1 t)))
      = win0_1.fill (grid0.coords t) d1 (iblk m c 1 t) := fun d1 => by rw [win0_1.cut_fill]
  have hc2 : ∀ d2 : S512x224.Idx → EReal, win0_2.fill (grid0.coords t) d2 (win0_2.cut (grid0.coords t) (win0_2.fill (grid0.coords t) (fun _ => (0 : EReal)) (iblk m c 2 t)))
      = win0_2.fill (grid0.coords t) d2 (iblk m c 2 t) := fun d2 => by rw [win0_2.cut_fill]
  rw [show (dats m 0 c).owesAt () t.succ = (dats m 0 c).owesAt () t.castSucc from rfl,
    show (dats m 0 c).Φ t.succ = inv m c (t.val + 1) from rfl, show (dats m 0 c).Φ t.castSucc = inv m c t.val from rfl]
  by_cases h31 : t.val = 31
  · obtain ⟨i3, i4, i5⟩ := live_facts t h31
    have a3 : (dats m 0 c).after (3 : Fin 6) t = oTok m c := rfl
    have a4 : (dats m 0 c).after (4 : Fin 6) t = oMar m c := rfl
    have a5 : (dats m 0 c).after (5 : Fin 6) t = oTop m c := rfl
    simp only [i3, i4, i5]
    rw [a3, a4, a5]
    iintro ⟨HI, Ho, ⟨%d0, H0⟩, ⟨%d1, H1⟩, ⟨%d2, H2⟩, ⟨%d3, H3⟩, ⟨%d4, H4⟩, ⟨%d5, H5⟩⟩
    rw [h0, h1, h2]
    iapply (soundLast m c t h31 d1 d2 _ _ _ _)
    isplitl [HI]; · iexact HI
    isplitl [H0]; · iexact H0
    isplitl [H1]; · iexact H1
    isplitl [H2]; · iexact H2
    isplitl [H3]; · iexact H3
    isplitl [H4]; · iexact H4
    isplitl [H5]; · iexact H5
    iintro ⟨HI, H0, H1, H2, H3, H4, H5⟩
    isplitl [HI]; · iexact HI
    isplitl [Ho]; · iexact Ho
    isplitl [H0]; · iexact H0
    isplitl [H1]
    · iexists d1
      change _ ⊢ owns (c : Thread nD τ) (stage0_1 (cfg0.slots t 1)) fullShare (win0_1.fill (grid0.coords t) d1 (win0_1.cut (grid0.coords t) (win0_1.fill (grid0.coords t) (fun _ => 0#8) (iblk m c 1 t))))
      rw [hc1]
    isplitl [H2]
    · iexists d2
      change _ ⊢ owns (c : Thread nD τ) (stage0_2 (cfg0.slots t 2)) fullShare (win0_2.fill (grid0.coords t) d2 (win0_2.cut (grid0.coords t) (win0_2.fill (grid0.coords t) (fun _ => (0 : EReal)) (iblk m c 2 t))))
      rw [hc2]
    isplitl [H3]; · iexact H3
    isplitl [H4]; · iexact H4
    iexact H5
  · obtain ⟨⟨i3, i4, i5⟩, f3, f4, f5⟩ := idle_facts t h31
    simp only [i3, i4, i5, f3, f4, f5]
    iintro ⟨HI, Ho, ⟨%d0, H0⟩, ⟨%d1, H1⟩, ⟨%d2, H2⟩, ⟨%d3, H3⟩, ⟨%d4, H4⟩, ⟨%d5, H5⟩⟩
    rw [h0, h1, h2]
    by_cases hz : t.val = 0
    · iapply (soundFirst m c t hz d1 d2 _ _ _ _)
      isplitl [HI]; · iexact HI
      isplitl [H0]; · iexact H0
      isplitl [H1]; · iexact H1
      isplitl [H2]; · iexact H2
      isplitl [H3]; · iexact H3
      isplitl [H4]; · iexact H4
      isplitl [H5]; · iexact H5
      iintro ⟨HI, H0, H1, H2, H3, H4, H5⟩
      isplitl [HI]; · iexact HI
      isplitl [Ho]; · iexact Ho
      isplitl [H0]; · iexact H0
      isplitl [H1]
      · iexists d1
        change _ ⊢ owns (c : Thread nD τ) (stage0_1 (cfg0.slots t 1)) fullShare (win0_1.fill (grid0.coords t) d1 (win0_1.cut (grid0.coords t) (win0_1.fill (grid0.coords t) (fun _ => 0#8) (iblk m c 1 t))))
        rw [hc1]
      isplitl [H2]
      · iexists d2
        change _ ⊢ owns (c : Thread nD τ) (stage0_2 (cfg0.slots t 2)) fullShare (win0_2.fill (grid0.coords t) d2 (win0_2.cut (grid0.coords t) (win0_2.fill (grid0.coords t) (fun _ => (0 : EReal)) (iblk m c 2 t))))
        rw [hc2]
      isplitl [H3]; · iexists d3; iexact H3
      isplitl [H4]; · iexists d4; iexact H4
      iexists d5; iexact H5
    · iapply (soundMid m c t hz h31 d1 d2 _ _ _ _)
      isplitl [HI]; · iexact HI
      isplitl [H0]; · iexact H0
      isplitl [H1]; · iexact H1
      isplitl [H2]; · iexact H2
      isplitl [H3]; · iexact H3
      isplitl [H4]; · iexact H4
      isplitl [H5]; · iexact H5
      iintro ⟨HI, H0, H1, H2, H3, H4, H5⟩
      isplitl [HI]; · iexact HI
      isplitl [Ho]; · iexact Ho
      isplitl [H0]; · iexact H0
      isplitl [H1]
      · iexists d1
        change _ ⊢ owns (c : Thread nD τ) (stage0_1 (cfg0.slots t 1)) fullShare (win0_1.fill (grid0.coords t) d1 (win0_1.cut (grid0.coords t) (win0_1.fill (grid0.coords t) (fun _ => 0#8) (iblk m c 1 t))))
        rw [hc1]
      isplitl [H2]
      · iexists d2
        change _ ⊢ owns (c : Thread nD τ) (stage0_2 (cfg0.slots t 2)) fullShare (win0_2.fill (grid0.coords t) d2 (win0_2.cut (grid0.coords t) (win0_2.fill (grid0.coords t) (fun _ => (0 : EReal)) (iblk m c 2 t))))
        rw [hc2]
      isplitl [H3]; · iexists d3; iexact H3
      isplitl [H4]; · iexists d4; iexact H4
      iexists d5; iexact H5

/-- A buffer held whole, read against the memory: the memory holds its contents. -/
theorem pointsTo_keep (ℓ : Loc nD τ sig) (f : Buf (Elt Ideal) ℓ) (s' : Phys nD τ sig (Elt Ideal)) :
    iprop((ℓ ↦{fullShare} f) ∗ SI s') ⊢ (iprop(⌜s'.mem.mem ℓ = f⌝ ∗ SI s') : sProp 𝕄) := by
  iintro ⟨H, HSI⟩
  icombine HSI H gives %h
  isplitr
  · ipureintro; exact funext fun i => h i (Finset.mem_univ i)
  iexact HSI

/-- The launch element: every staging cell's owner and a duty token for every transfer the pipeline issues. -/
def u₀ : UR sig nD τ := initOf (Pipeline.cells cfgs launch0.cellOf_inj) (Pipeline.launchToks cfgs launch0.cellOf_inj)

/-- A scratch buffer owned at known contents is held at some contents. -/
theorem forget (c : Dev nD) (b : Ref sig .tc) (X : b.ty.shape.Idx → Elt Ideal b.ty.elt) :
    (owns (Ix := Unit) (Name := ℕ) (U := UR sig nD τ) (Lvl := ℕ) (c : Thread nD τ) (Memref.whole b) fullShare X : sProp 𝕄)
      ⊢ iprop(∃ f : Buf (Elt Ideal) ((c : Thread nD τ).loc b), ((c : Thread nD τ).loc b) ↦{fullShare} f) := by
  rw [owns_eq_pt c (Memref.isWhole_whole b)]
  iintro ⟨%f, -, H⟩
  iexists f; iexact H

set_option backward.isDefEq.respectTransparency.types false in
/-- At the compiled mesh, from any memory with zero counters: every weakly fair execution of @main on the TensorCores
    terminates, and every final state has the argument arrays unchanged, each result array at what its write-back
    leaves, and every semaphore counter at zero. -/
theorem run_main : θ_run defs (onTc (τ := τ) (main (F := Ideal))) (s₀ m ρ) (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ ∀ w : Fin cfg0.W, r.2.mem ((cfg0.win w).arr.view.loc (c : Thread nD τ)) = (dats m 0 c).arrAt w cfg0.N) ∧ r.2.sem = fun _ => 0) :=
  Pipeline.θ_run_region_noSem_kit_quiescent cfgs (dats m) () (0 : Fin 1) launch0 EP defs₀ 𝒱₀ m ρ main
    (hbody := body_obligation m)
    (hshare := fun c => (dats m 0 c).share_full fun _ => rfl) (howed := fun _ _ => rfl)
    (u₀ := u₀) (hu₀ := BI.Entails.refl _)
    (V := V m) (hmain := hmain m 𝒱₀) (hA := fun _ _ => rfl)
    (X := fun _ => iprop(emp)) (Y := fun _ => iprop(emp))
    (Z := fun c => iprop(((c : Thread nD τ).loc main_arg0) ↦{fullShare} V m c main_arg0))
    (hX := fun c => by
      rw [unscopedRest0_eq]
      iintro HZ
      isplitr; · iempintro
      iexact HZ)
    (hin := fun c => by
      rw [show (dats m 0 c).Φ 0 = inv m c 0 from rfl, show inv m c 0 = Pipeline.scopedRest spec0 c from if_pos rfl]
      iintro ⟨-, H⟩; iexact H)
    (hout := fun c => by
      rw [show (dats m 0 c).Φ (Fin.last (cfgs 0).N) = inv m c 32 from congrArg (inv m c) N_0,
        show inv m c 32 = _ from if_neg (by decide), show Pipeline.scopedRest (cfgs 0).spec c = Pipeline.scopedRest spec0 c from rfl, scopedRest0_eq]
      iintro ⟨H7, H8, H9, H10, H11, H12⟩
      isplitr; · iempintro
      isplitl [H7]; · iapply (forget c cc0_scratch0 _); iexact H7
      isplitl [H8]; · iexact H8
      isplitl [H9]; · iexact H9
      isplitl [H10]; · iapply (forget c cc0_scratch3 _); iexact H10
      isplitl [H11]; · iapply (forget c cc0_scratch4 _); iexact H11
      iapply (forget c cc0_scratch5 _); iexact H12)
    (QY := fun c s => s.mem ((c : Thread nD τ).loc main_arg0) = V m c main_arg0)
    (hY := fun c s' => by
      iintro ⟨-, HZ, HSI⟩; imodintro
      ihave ⟨%h, HSI⟩ := (pointsTo_keep ((c : Thread nD τ).loc main_arg0) (V m c main_arg0) s') $$ [HZ HSI]
      · isplitl [HZ]; · iexact HZ
        iexact HSI
      isplitr; · ipureintro; exact h
      iexact HSI)
    (hQ := fun s h hz => ⟨fun c => ⟨⟨((h c).2).trans (V_main_arg0 m c),
      ((h c).1 1).trans (((dats m 0 c).arrAt_in 1 rfl _).trans (V_main_arg1 m c)),
      ((h c).1 2).trans (((dats m 0 c).arrAt_in 2 rfl _).trans (V_main_arg2 m c))⟩, (h c).1⟩, hz⟩)

end Cert.KI

end
-- ==== Proof.KI.Final.lean ====
/-
  What the launch leaves in the three result arrays: the tokens, the margins and the largest logits the last point
  computes.
-/
module

public import proofs.«01_k».proof.Proof.KI.Frame

@[expose] public section

set_option maxRecDepth 16384

noncomputable section

namespace Cert.KI

open Cert.KernelIdeal Cert.KernelIdeal.Gen

open Idealize.ShloMosaic
open Idealize.ShloMosaic.TcCoe Idealize.ShloMosaic.Tactic
open Idealize.SL.Sem

variable (m : (ℓ : Loc nD τ sig) → Buf (Elt Ideal) ℓ) (ρ : Dev nD → PrngReg)

attribute [local irreducible] oTok oMar oTop

/-- The last point of the grid. -/
def tLast : Fin cfg0.N := ⟨31, by rw [show cfg0.N = 32 from N_0]; decide⟩

/-- The result windows' one block starts at the array's start. -/
theorem off3 : (fun a => win0_3.kind.off (win0_3.indexMap (grid0.coords tLast) a) (win0_3.size a)) = fun _ => 0 := by
  funext a; revert a; decide +kernel
/-- So does the one block of the margins. -/
theorem off4 : (fun a => win0_4.kind.off (win0_4.indexMap (grid0.coords tLast) a) (win0_4.size a)) = fun _ => 0 := by
  funext a; revert a; decide +kernel
/-- So does the one block of the greatest logits. -/
theorem off5 : (fun a => win0_5.kind.off (win0_5.indexMap (grid0.coords tLast) a) (win0_5.size a)) = fun _ => 0 := by
  funext a; revert a; decide +kernel

/-- The token array after the run. -/
theorem final3 (c : Dev nD) : (dats m 0 c).arrAt (3 : Fin 6) cfg0.N = oTok m c := by
  rw [show cfg0.N = tLast.val + 1 from N_0, (dats m 0 c).arrAt_succ (3 : Fin 6) tLast, if_pos ((flush0_3 tLast).mpr rfl)]
  exact Memref.write_access_unit_zero_univ (Elt Ideal) main_v1_0 off3 _ _ (oTok m c)

/-- The margin array after the run. -/
theorem final4 (c : Dev nD) : (dats m 0 c).arrAt (4 : Fin 6) cfg0.N = oMar m c := by
  rw [show cfg0.N = tLast.val + 1 from N_0, (dats m 0 c).arrAt_succ (4 : Fin 6) tLast, if_pos ((flush0_4 tLast).mpr rfl)]
  exact Memref.write_access_unit_zero_univ (Elt Ideal) main_v1_1 off4 _ _ (oMar m c)

/-- The array of the largest logits after the run. -/
theorem final5 (c : Dev nD) : (dats m 0 c).arrAt (5 : Fin 6) cfg0.N = oTop m c := by
  rw [show cfg0.N = tLast.val + 1 from N_0, (dats m 0 c).arrAt_succ (5 : Fin 6) tLast, if_pos ((flush0_5 tLast).mpr rfl)]
  exact Memref.write_access_unit_zero_univ (Elt Ideal) main_v1_2 off5 _ _ (oTop m c)

/-- Every weakly fair execution ends with the three results at those values and the arguments unchanged. -/
theorem run_values : θ_run defs (onTc (τ := τ) (main (F := Ideal))) ⟨m, fun _ => 0, ρ⟩ (fun r => ∀ c : Dev nD,
      (r.2.mem ((c.tc : Thread nD τ).loc main_v1_0) = oTok m c
      ∧ r.2.mem ((c.tc : Thread nD τ).loc main_v1_1) = oMar m c
      ∧ r.2.mem ((c.tc : Thread nD τ).loc main_v1_2) = oTop m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨⟨((h.1 c).2 3).trans (final3 m c), ((h.1 c).2 4).trans (final4 m c), ((h.1 c).2 5).trans (final5 m c)⟩,
    (h.1 c).1⟩) (run_main m ρ)

/-- Every weakly fair execution ends with the arguments unchanged and every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => (h.1 c).1, h.2⟩) (run_main m ρ)

end Cert.KI

end
-- ==== Proof.Ref.Facts.lean ====
/-
  The side conditions the reference program states (shapes that have equal numbers of elements, slices
  that fit, axes that may be broadcast), proved: the instance its operations take.
-/
module

public import proofs.«01_k».proof.ReferenceIdeal
public import Idealize.ShloMosaic.Lib.Affine
public import Idealize.ShloMosaic.Lib.Decide
public import Idealize.ShloMosaic.Lib.Exec

@[expose] public section

namespace Cert.Ref

open Cert.ReferenceIdeal
open Idealize.ShloMosaic Idealize.SL.Sem

/-- The reference's side conditions over its shapes, each decided. -/
instance facts₀ : Facts₀ where
  shapeCasts_S16000x3584_S16000x224x16 := by decide
  natLt_8_32 := by decide
  bcast_S_S16000x224x16 := by decide
  bcast_S16000x224_S16000x224x1_0_1 := by decide
  bcast_S16000x224x1_S16000x224x16_0_1_2 := by decide
  shapeCasts_S192x1x7168_S192x1x224x32 := by decide
  slices_S192x1x224x32_S192x1x224x16_0_0_0_0 := by decide
  slices_S192x1x224x32_S192x1x224x16_0_0_0_16 := by decide
  reducesTo_S192x1x16000_S192x1_d2 := by decide
  h_S_ := by decide
  sliceFits_S192x1x16000_S192x1x2 := by decide
  slices_S192x1x2_S192x1x1_0_0_0 := by decide
  shapeCasts_S192x1x1_S192x1 := by decide
  slices_S192x1x2_S192x1x1_0_0_1 := by decide
  dot_S192x1x224x16_S16000x224x16_S192x1x16000_23_12_01_0_n_n_wf := by decide

/-- Every fact the reference states: it has no kernel, so nothing is added to the shapes' facts. -/
instance facts : Facts where

end Cert.Ref

end
-- ==== Proof.Ref.Run.lean ====
/-
  The run of the reference: forty array operations in a row over one buffer each, so its run is the
  fold of the operations over the buffers it starts from. Read at the three result buffers this gives the
  three values the reference returns, as expressions over its three arguments.
-/
module

public import proofs.«01_k».proof.Proof.Ref.Facts
public import Idealize.ShloMosaic.Lib.StableHlo.Run
public import Idealize.ShloMosaic.Lib.Quiescent

@[expose] public section

set_option maxRecDepth 16384

noncomputable section

namespace Cert.Ref

open Cert.ReferenceIdeal Cert.ReferenceIdeal.Facts₀
open Idealize.ShloMosaic Idealize.ShloMosaic.TcCoe Idealize.ShloMosaic.StableHlo Idealize.SL.Sem

variable {F : FTy → Type} [FloatOps F]

/-- The contents of an array of shape `S` with elements of type `e`. -/
abbrev Arr (F : FTy → Type) [FloatOps F] (S : Shape) (e : EltTy) : Type := (⟨S, e⟩ : BufTy).Contents (Elt F)

/-- The reference's operations, in order. -/
abbrev ops : List (HloOp τ sig (Elt F)) :=
  [ reshape main_arg1 main_v0 (rfl : (.i8 : EltTy) = .i8) shapeCasts_S16000x3584_S16000x224x16,
    unary main_v0 main_v1 ((extui 32 · natLt_8_32) : Arr F S16000x224x16 .i8 → Arr F S16000x224x16 .i32),
    nullary main_c (constantI S_ 32 15#32),
    unary main_c main_v2 (broadcastInDim S16000x224x16 ![] bcast_S_S16000x224x16 : Arr F S_ .i32 → Arr F S16000x224x16 .i32),
    binary main_v1 main_v2 main_v3 (andi : Arr F S16000x224x16 .i32 → Arr F S16000x224x16 .i32 → Arr F S16000x224x16 .i32),
    nullary main_c_0 (constantI S_ 32 8#32),
    unary main_c_0 main_v4 (broadcastInDim S16000x224x16 ![] bcast_S_S16000x224x16 : Arr F S_ .i32 → Arr F S16000x224x16 .i32),
    binary main_v3 main_v4 main_v5 (subi : Arr F S16000x224x16 .i32 → Arr F S16000x224x16 .i32 → Arr F S16000x224x16 .i32),
    unary main_v5 main_v6 (sitofp .bf16 : Arr F S16000x224x16 .i32 → Arr F S16000x224x16 .bf16),
    unary main_arg2 main_v7 (broadcastInDim S16000x224x1 ![0, 1] bcast_S16000x224_S16000x224x1_0_1 : Arr F S16000x224 .bf16 → Arr F S16000x224x1 .bf16),
    unary main_v7 main_v8 (broadcastInDim S16000x224x16 ![0, 1, 2] bcast_S16000x224x1_S16000x224x16_0_1_2 : Arr F S16000x224x1 .bf16 → Arr F S16000x224x16 .bf16),
    binary main_v6 main_v8 main_v9 (mulf : Arr F S16000x224x16 .bf16 → Arr F S16000x224x16 .bf16 → Arr F S16000x224x16 .bf16),
    nullary main_c_1 (constantI S_ 32 4#32),
    unary main_c_1 main_v10 (broadcastInDim S16000x224x16 ![] bcast_S_S16000x224x16 : Arr F S_ .i32 → Arr F S16000x224x16 .i32),
    binary main_v1 main_v10 main_v11 (Host.shrsi : Arr F S16000x224x16 .i32 → Arr F S16000x224x16 .i32 → Arr F S16000x224x16 .i32),
    nullary main_c_2 (constantI S_ 32 8#32),
    unary main_c_2 main_v12 (broadcastInDim S16000x224x16 ![] bcast_S_S16000x224x16 : Arr F S_ .i32 → Arr F S16000x224x16 .i32),
    binary main_v11 main_v12 main_v13 (subi : Arr F S16000x224x16 .i32 → Arr F S16000x224x16 .i32 → Arr F S16000x224x16 .i32),
    unary main_v13 main_v14 (sitofp .bf16 : Arr F S16000x224x16 .i32 → Arr F S16000x224x16 .bf16),
    unary main_arg2 main_v15 (broadcastInDim S16000x224x1 ![0, 1] bcast_S16000x224_S16000x224x1_0_1 : Arr F S16000x224 .bf16 → Arr F S16000x224x1 .bf16),
    unary main_v15 main_v16 (broadcastInDim S16000x224x16 ![0, 1, 2] bcast_S16000x224x1_S16000x224x16_0_1_2 : Arr F S16000x224x1 .bf16 → Arr F S16000x224x16 .bf16),
    binary main_v14 main_v16 main_v17 (mulf : Arr F S16000x224x16 .bf16 → Arr F S16000x224x16 .bf16 → Arr F S16000x224x16 .bf16),
    reshape main_arg0 main_v18 (rfl : (.bf16 : EltTy) = .bf16) shapeCasts_S192x1x7168_S192x1x224x32,
    unary main_v18 main_v19 ((extractStridedSlice S192x1x224x16 ![0, 0, 0, 0] · slices_S192x1x224x32_S192x1x224x16_0_0_0_0) : Arr F S192x1x224x32 .bf16 → Arr F S192x1x224x16 .bf16),
    binary main_v19 main_v9 main_v20 ((fun l r => Host.dotGeneral dot_S192x1x224x16_S16000x224x16_S192x1x16000_23_12_01_0_n_n none l r) : Arr F S192x1x224x16 .bf16 → Arr F S16000x224x16 .bf16 → Arr F S192x1x16000 .f32),
    unary main_v18 main_v21 ((extractStridedSlice S192x1x224x16 ![0, 0, 0, 16] · slices_S192x1x224x32_S192x1x224x16_0_0_0_16) : Arr F S192x1x224x32 .bf16 → Arr F S192x1x224x16 .bf16),
    binary main_v21 main_v17 main_v22 ((fun l r => Host.dotGeneral dot_S192x1x224x16_S16000x224x16_S192x1x16000_23_12_01_0_n_n none l r) : Arr F S192x1x224x16 .bf16 → Arr F S16000x224x16 .bf16 → Arr F S192x1x16000 .f32),
    binary main_v20 main_v22 main_v23 (addf : Arr F S192x1x16000 .f32 → Arr F S192x1x16000 .f32 → Arr F S192x1x16000 .f32),
    nullary main_call0_v0 (iotaInDim S192x1x16000 32 2 : Arr F S192x1x16000 .i32),
    nullary main_call0_cst (constant S_ .f32 0xFF800000#32),
    nullary main_call0_c (constantI S_ 32 0#32),
    quaternary main_v23 main_call0_v0 main_call0_cst main_call0_c main_call0_v1_0 ((fun x y u v j => (Host.argReduce reducer_argmax_f32_i32 x y u v reducesTo_S192x1x16000_S192x1_d2 h_S_ j).1) : Arr F S192x1x16000 .f32 → Arr F S192x1x16000 .i32 → Arr F S_ .f32 → Arr F S_ .i32 → Arr F S192x1 .f32),
    quaternary main_v23 main_call0_v0 main_call0_cst main_call0_c main_v24 ((fun x y u v j => (Host.argReduce reducer_argmax_f32_i32 x y u v reducesTo_S192x1x16000_S192x1_d2 h_S_ j).2) : Arr F S192x1x16000 .f32 → Arr F S192x1x16000 .i32 → Arr F S_ .f32 → Arr F S_ .i32 → Arr F S192x1 .i32),
    unary main_v23 main_values ((fun x => (Host.topK S192x1x2 2 (FloatOps.cmpfTotal .gt) x sliceFits_S192x1x16000_S192x1x2).1) : Arr F S192x1x16000 .f32 → Arr F S192x1x2 .f32),
    unary main_v23 main_indices ((fun x => (Host.topK S192x1x2 2 (FloatOps.cmpfTotal .gt) x sliceFits_S192x1x16000_S192x1x2).2) : Arr F S192x1x16000 .f32 → Arr F S192x1x2 .i32),
    unary main_values main_v25 ((extractStridedSlice S192x1x1 ![0, 0, 0] · slices_S192x1x2_S192x1x1_0_0_0) : Arr F S192x1x2 .f32 → Arr F S192x1x1 .f32),
    reshape main_v25 main_v26 (rfl : (.f32 : EltTy) = .f32) shapeCasts_S192x1x1_S192x1,
    unary main_values main_v27 ((extractStridedSlice S192x1x1 ![0, 0, 1] · slices_S192x1x2_S192x1x1_0_0_1) : Arr F S192x1x2 .f32 → Arr F S192x1x1 .f32),
    reshape main_v27 main_v28 (rfl : (.f32 : EltTy) = .f32) shapeCasts_S192x1x1_S192x1,
    binary main_v26 main_v28 main_v29 (subf : Arr F S192x1 .f32 → Arr F S192x1 .f32 → Arr F S192x1 .f32) ]

/-- The reference is that straight line. -/
theorem main_eq (c : Dev nD) : main (F := F) c = seq ops := rfl

/-- The codes as the reference reads them: the bytes widened to words, in groups of sixteen. -/
abbrev words (A1 : Arr F S16000x3584 .i8) : Arr F S16000x224x16 .i32 :=
  extui 32 (shapeCast S16000x224x16 A1 shapeCasts_S16000x3584_S16000x224x16) natLt_8_32

/-- A word at every place of the codes' array. -/
abbrev splat (w : BitVec 32) : Arr F S16000x224x16 .i32 :=
  broadcastInDim S16000x224x16 ![] bcast_S_S16000x224x16 (constantI S_ 32 w)

/-- Each group's scale at every place of its group. -/
abbrev scales (A2 : Arr F S16000x224 .bf16) : Arr F S16000x224x16 .bf16 :=
  broadcastInDim S16000x224x16 ![0, 1, 2] bcast_S16000x224x1_S16000x224x16_0_1_2
    (broadcastInDim S16000x224x1 ![0, 1] bcast_S16000x224_S16000x224x1_0_1 A2)

/-- The weights coded by the low half of each byte. -/
abbrev lowW (A1 : Arr F S16000x3584 .i8) (A2 : Arr F S16000x224 .bf16) : Arr F S16000x224x16 .bf16 :=
  mulf (sitofp .bf16 (subi (andi (words (F := F) A1) (splat (F := F) 15#32)) (splat (F := F) 8#32))) (scales A2)

/-- The weights coded by the high half of each byte. -/
abbrev highW (A1 : Arr F S16000x3584 .i8) (A2 : Arr F S16000x224 .bf16) : Arr F S16000x224x16 .bf16 :=
  mulf (sitofp .bf16 (subi (Host.shrsi (words (F := F) A1) (splat (F := F) 4#32)) (splat (F := F) 8#32))) (scales A2)

/-- The activations in groups of thirty-two. -/
abbrev xg (A0 : Arr F S192x1x7168 .bf16) : Arr F S192x1x224x32 .bf16 :=
  shapeCast S192x1x224x32 A0 shapeCasts_S192x1x7168_S192x1x224x32

/-- The logits: the first sixteen of each group against the low halves plus the last sixteen against the high. -/
def logits (A0 : Arr F S192x1x7168 .bf16) (A1 : Arr F S16000x3584 .i8) (A2 : Arr F S16000x224 .bf16) :
    Arr F S192x1x16000 .f32 :=
  addf
    (Host.dotGeneral dot_S192x1x224x16_S16000x224x16_S192x1x16000_23_12_01_0_n_n none
      (extractStridedSlice S192x1x224x16 ![0, 0, 0, 0] (xg A0) slices_S192x1x224x32_S192x1x224x16_0_0_0_0 : Arr F S192x1x224x16 .bf16) (lowW A1 A2))
    (Host.dotGeneral dot_S192x1x224x16_S16000x224x16_S192x1x16000_23_12_01_0_n_n none
      (extractStridedSlice S192x1x224x16 ![0, 0, 0, 16] (xg A0) slices_S192x1x224x32_S192x1x224x16_0_0_0_16 : Arr F S192x1x224x16 .bf16) (highW A1 A2))

/-- The token: the position of the greatest logit. -/
def token (L : Arr F S192x1x16000 .f32) : Arr F S192x1 .i32 :=
  fun j => (Host.argReduce reducer_argmax_f32_i32 L (iotaInDim S192x1x16000 32 2) (constant S_ .f32 0xFF800000#32)
    (constantI S_ 32 0#32) reducesTo_S192x1x16000_S192x1_d2 h_S_ j).2

/-- The two greatest logits of each row. -/
def best2 (L : Arr F S192x1x16000 .f32) : Arr F S192x1x2 .f32 :=
  (Host.topK S192x1x2 2 (FloatOps.cmpfTotal .gt) L sliceFits_S192x1x16000_S192x1x2).1

/-- The greatest logit of each row. -/
def top (L : Arr F S192x1x16000 .f32) : Arr F S192x1 .f32 :=
  shapeCast S192x1 (extractStridedSlice S192x1x1 ![0, 0, 0] (best2 L) slices_S192x1x2_S192x1x1_0_0_0) shapeCasts_S192x1x1_S192x1

/-- The second greatest logit of each row. -/
def second (L : Arr F S192x1x16000 .f32) : Arr F S192x1 .f32 :=
  shapeCast S192x1 (extractStridedSlice S192x1x1 ![0, 0, 1] (best2 L) slices_S192x1x2_S192x1x1_0_0_1) shapeCasts_S192x1x1_S192x1

/-- The fold of the operations at the logits' buffer. -/
theorem logits_eq (V : Valuation τ sig (Elt F)) :
    after ops V (main_v23 : DevRef τ sig) = logits (V (main_arg0 : DevRef τ sig)) (V (main_arg1 : DevRef τ sig)) (V (main_arg2 : DevRef τ sig)) := by
  after_results
  rfl

/-- The fold at the token's buffer. -/
theorem token_eq (V : Valuation τ sig (Elt F)) :
    after ops V (main_v24 : DevRef τ sig) = token (logits (V (main_arg0 : DevRef τ sig)) (V (main_arg1 : DevRef τ sig)) (V (main_arg2 : DevRef τ sig))) := by
  after_results
  rfl

/-- The fold at the greatest logit's buffer. -/
theorem top_eq (V : Valuation τ sig (Elt F)) :
    after ops V (main_v26 : DevRef τ sig) = top (logits (V (main_arg0 : DevRef τ sig)) (V (main_arg1 : DevRef τ sig)) (V (main_arg2 : DevRef τ sig))) := by
  after_results
  rfl

/-- The fold at the margin's buffer. -/
theorem margin_eq (V : Valuation τ sig (Elt F)) :
    after ops V (main_v29 : DevRef τ sig) = subf (top (logits (V (main_arg0 : DevRef τ sig)) (V (main_arg1 : DevRef τ sig)) (V (main_arg2 : DevRef τ sig)))) (second (logits (V (main_arg0 : DevRef τ sig)) (V (main_arg1 : DevRef τ sig)) (V (main_arg2 : DevRef τ sig)))) := by
  after_results
  rfl

/-- No operation writes argument 0. -/
theorem arg0_eq (V : Valuation τ sig (Elt F)) :
    after ops V (main_arg0 : DevRef τ sig) = V (main_arg0 : DevRef τ sig) := by
  after_results

/-- No operation writes argument 1. -/
theorem arg1_eq (V : Valuation τ sig (Elt F)) :
    after ops V (main_arg1 : DevRef τ sig) = V (main_arg1 : DevRef τ sig) := by
  after_results

/-- No operation writes argument 2. -/
theorem arg2_eq (V : Valuation τ sig (Elt F)) :
    after ops V (main_arg2 : DevRef τ sig) = V (main_arg2 : DevRef τ sig) := by
  after_results

/-- Nothing of the reference's memory is scoped. -/
theorem scopedRefs_eq : (Finset.univ.filter fun b : Ref sig .tc => b.isScoped) = ∅ := by decide
/-- Nor is any semaphore. -/
theorem scopedSems_eq : (Finset.univ.filter fun sm : SemLoc sig => sm.isScoped .tc) = ∅ := by decide

/-- Every operation touches the arrays of the main memory only. -/
theorem ops_sub : (ops : List (HloOp τ sig (Elt F))).Forall fun op => op.bufs ⊆ tcRefs τ sig :=
  ⟨reshape_bufs_sub .., unary_bufs_sub .., nullary_bufs_sub .., unary_bufs_sub .., binary_bufs_sub .., nullary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., binary_bufs_sub .., reshape_bufs_sub .., unary_bufs_sub .., binary_bufs_sub .., unary_bufs_sub .., binary_bufs_sub .., binary_bufs_sub .., nullary_bufs_sub .., nullary_bufs_sub .., nullary_bufs_sub .., quaternary_bufs_sub .., quaternary_bufs_sub .., unary_bufs_sub .., unary_bufs_sub .., unary_bufs_sub .., reshape_bufs_sub .., unary_bufs_sub .., reshape_bufs_sub .., binary_bufs_sub ..⟩

/-- The reference terminates from any memory with its arguments unchanged and its three results at the values above. -/
theorem run_values (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v24) = token (logits (m ((c.tc : Thread nD τ).loc main_arg0)) (m ((c.tc : Thread nD τ).loc main_arg1)) (m ((c.tc : Thread nD τ).loc main_arg2)))
        ∧ r.2.mem ((c.tc : Thread nD τ).loc main_v29) = subf (top (logits (m ((c.tc : Thread nD τ).loc main_arg0)) (m ((c.tc : Thread nD τ).loc main_arg1)) (m ((c.tc : Thread nD τ).loc main_arg2)))) (second (logits (m ((c.tc : Thread nD τ).loc main_arg0)) (m ((c.tc : Thread nD τ).loc main_arg1)) (m ((c.tc : Thread nD τ).loc main_arg2))))
        ∧ r.2.mem ((c.tc : Thread nD τ).loc main_v26) = top (logits (m ((c.tc : Thread nD τ).loc main_arg0)) (m ((c.tc : Thread nD τ).loc main_arg1)) (m ((c.tc : Thread nD τ).loc main_arg2)))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  (θ_run defs _ _).mono (fun _ h c => ⟨(h c main_v24).trans (token_eq _), (h c main_v29).trans (margin_eq _),
      (h c main_v26).trans (top_eq _), (h c main_arg0).trans (arg0_eq _), (h c main_arg1).trans (arg1_eq _),
      (h c main_arg2).trans (arg2_eq _)⟩)
    (run_seq scopedRefs_eq scopedSems_eq defs main (fun _ => ops) main_eq (fun _ => ops_sub) m ρ)

/-- The reference's frame: it terminates, its arguments are unchanged and no semaphore is left raised. -/
theorem frame (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2))
        ∧ r.2.sem = fun _ => 0 :=
  (θ_run defs _ _).mono (fun r h => ⟨fun c => (h c).2.2.2, Idealize.ShloMosaic.sem_eq_zero_of_no_sems (by decide) r.2⟩)
    (run_values m ρ)

end Cert.Ref

end
-- ==== Proof.Preserves.lean ====
/-
  The reading of the packed words: a word that holds two half-width floats is read as the two floats, by the
  library's rules at the shapes this kernel packs and unpacks.
-/
module

public import proofs.«01_k».proof.Defs
public import Idealize.ShloMosaic.Lib.Bf16Pair
public import Idealize.ShloMosaic.Lib.Bf16PairInverse

@[expose] public section

namespace Cert.Preserves

open Idealize.ShloMosaic

/-- Each place where the kernel handles two half-width floats as one word is covered by its rule. -/
theorem preserves : preserves_Kernel_KernelIdeal :=
  ⟨IdealRules.bf16_pair.bufferStatement _ _, IdealRules.bf16_pair.halfStatement _, IdealRules.bf16_pair.statement _ _,
    IdealRules.bf16_pair.statement _ _, IdealRules.bf16_pair.statement _ _⟩

end Cert.Preserves

end
-- ==== Proof.Top2.lean ====
/-
  The two greatest of finitely many extended reals, and the earliest place of the greatest: what it means
  to be them, that they are determined, and that a running record of the greatest, the second greatest and
  the earliest place ends at them. Pure order theory; no program is mentioned.
-/
module

public import proofs.«01_k».proof.Proof.KI.Step
public import Mathlib.Data.Finset.Fold
public import Mathlib.Data.List.FinRange

@[expose] public section

noncomputable section

namespace Cert.Top2

open Cert.KI

variable {N : ℕ}

/-- The places `a` and `b` hold the greatest and the second greatest of the values, counted with repetition. -/
structure Two (f : Fin N → EReal) (a b : Fin N) : Prop where
  ne : a ≠ b
  max : ∀ v, f v ≤ f a
  second : ∀ v, v ≠ a → f v ≤ f b

/-- The place `a` is the earliest that holds the greatest of the values. -/
structure First (f : Fin N → EReal) (a : Fin N) : Prop where
  max : ∀ v, f v ≤ f a
  earliest : ∀ v, v < a → f v < f a

/-- The earliest place of the greatest is determined. -/
theorem First.unique {f : Fin N → EReal} {a a' : Fin N} (h : First f a) (h' : First f a') : a = a' := by
  rcases lt_trichotomy a a' with hlt | heq | hgt
  · exact absurd (h'.earliest a hlt) (not_lt.mpr (h.max a'))
  · exact heq
  · exact absurd (h.earliest a' hgt) (not_lt.mpr (h'.max a))

/-- The greatest value is determined. -/
theorem Two.top_unique {f : Fin N → EReal} {a b a' b' : Fin N} (h : Two f a b) (h' : Two f a' b') : f a = f a' :=
  le_antisymm (h'.max a) (h.max a')

/-- The second greatest value is determined. -/
theorem Two.second_unique {f : Fin N → EReal} {a b a' b' : Fin N} (h : Two f a b) (h' : Two f a' b') : f b = f b' := by
  have key : ∀ {a b a' b' : Fin N}, Two f a b → Two f a' b' → f b ≤ f b' := by
    intro a b a' b' h h'
    by_cases hb : b = a'
    · subst hb
      have e : f a = f b := le_antisymm (h'.max a) (h.max b)
      rw [← e]
      exact h'.second a h.ne
    · exact h'.second b hb
  exact le_antisymm (key h h') (key h' h)

/-! ## A lane's running record -/

/-- The place of the greatest of a lane's first `n` values, the earliest of equal ones, as a number. -/
def at1 (v : ℕ → EReal) : ℕ → ℕ
  | 0 => 0
  | n + 1 => if stM1 v n < v n then n else at1 v n

/-- The kernel's word for the place is the place. -/
theorem stIx_eq (v : ℕ → EReal) (n : ℕ) : stIx v n = BitVec.ofNat 32 (at1 v n) := by
  induction n with
  | zero => rfl
  | succ n ih => rw [stIx, at1]; split <;> [rfl; exact ih]

/-- After at least one value, the record holds the greatest value, at the earliest place it stands. -/
theorem record1 (v : ℕ → EReal) (n : ℕ) : at1 v (n + 1) < n + 1 ∧ v (at1 v (n + 1)) = stM1 v (n + 1)
    ∧ (∀ k, k < n + 1 → v k ≤ stM1 v (n + 1)) ∧ ∀ k, k < at1 v (n + 1) → v k < stM1 v (n + 1) := by
  induction n with
  | zero =>
    have h0 : at1 v 1 = 0 := by rw [at1]; split <;> rfl
    have h1 : stM1 v 1 = v 0 := by rw [stM1, stM1]; exact max_eq_right bot_le
    rw [h0, h1]
    refine ⟨Nat.one_pos, rfl, fun k hk => ?_, fun k hk => absurd hk (Nat.not_lt_zero k)⟩
    rw [Nat.lt_one_iff.mp hk]
  | succ n ih =>
    obtain ⟨i1, i2, i3, i4⟩ := ih
    have e1 : at1 v (n + 1 + 1) = if stM1 v (n + 1) < v (n + 1) then n + 1 else at1 v (n + 1) := rfl
    have e2 : stM1 v (n + 1 + 1) = max (stM1 v (n + 1)) (v (n + 1)) := rfl
    rw [e1, e2]
    by_cases h : stM1 v (n + 1) < v (n + 1)
    · rw [if_pos h, max_eq_right h.le]
      refine ⟨Nat.lt_succ_self _, rfl, fun k hk => ?_, fun k hk => (i3 k hk).trans_lt h⟩
      rcases Nat.lt_succ_iff_lt_or_eq.mp hk with hk | rfl
      · exact (i3 k hk).trans h.le
      · exact le_rfl
    · rw [if_neg h, max_eq_left (not_lt.mp h)]
      refine ⟨i1.trans (Nat.lt_succ_self _), i2, fun k hk => ?_, i4⟩
      rcases Nat.lt_succ_iff_lt_or_eq.mp hk with hk | rfl
      · exact i3 k hk
      · exact not_lt.mp h

/-- After at least one value, the record holds the greatest of the values at the other places, `⊥` of none. -/
theorem record2 (v : ℕ → EReal) (n : ℕ) : stM2 v (n + 1) ≤ stM1 v (n + 1)
    ∧ (∀ k, k < n + 1 → k ≠ at1 v (n + 1) → v k ≤ stM2 v (n + 1))
    ∧ (stM2 v (n + 1) = ⊥ ∨ ∃ k, k < n + 1 ∧ k ≠ at1 v (n + 1) ∧ v k = stM2 v (n + 1)) := by
  induction n with
  | zero =>
    have h0 : at1 v 1 = 0 := by rw [at1]; split <;> rfl
    have h2 : stM2 v 1 = ⊥ := by rw [stM2, stM2, stM1]; simp
    rw [h0, h2]
    exact ⟨bot_le, fun k hk hne => absurd (Nat.lt_one_iff.mp hk) hne, .inl rfl⟩
  | succ n ih =>
    obtain ⟨j1, j2, j3⟩ := ih
    obtain ⟨i1, i2, i3, _⟩ := record1 v n
    have e1 : at1 v (n + 1 + 1) = if stM1 v (n + 1) < v (n + 1) then n + 1 else at1 v (n + 1) := rfl
    have e2 : stM1 v (n + 1 + 1) = max (stM1 v (n + 1)) (v (n + 1)) := rfl
    have e3 : stM2 v (n + 1 + 1) = max (stM2 v (n + 1)) (min (stM1 v (n + 1)) (v (n + 1))) := rfl
    rw [e1, e2, e3]
    by_cases h : stM1 v (n + 1) < v (n + 1)
    · rw [if_pos h, min_eq_left h.le, max_eq_right j1, max_eq_right h.le]
      refine ⟨h.le, fun k hk hne => i3 k (by omega), .inr ⟨_, i1.trans (Nat.lt_succ_self _), i1.ne, i2⟩⟩
    · have h' := not_lt.mp h
      rw [if_neg h, min_eq_right h', max_eq_left h']
      refine ⟨max_le j1 h', fun k hk hne => ?_, ?_⟩
      · rcases Nat.lt_succ_iff_lt_or_eq.mp hk with hk | rfl
        · exact (j2 k hk hne).trans (le_max_left _ _)
        · exact le_max_right _ _
      · rcases le_total (stM2 v (n + 1)) (v (n + 1)) with hle | hle
        · rw [max_eq_right hle]
          exact .inr ⟨n + 1, Nat.lt_succ_self _, i1.ne', rfl⟩
        · rw [max_eq_left hle]
          rcases j3 with j3 | ⟨k, hk, hne, e⟩
          · exact .inl j3
          · exact .inr ⟨k, hk.trans (Nat.lt_succ_self _), hne, e⟩

/-! ## Folds of maximum and minimum -/

/-- A fold of maximum from `⊥` over some values bounds them and is one of them. -/
theorem fold_max {ι : Type} [Fintype ι] [Nonempty ι] (g : ι → EReal) :
    (∀ i, g i ≤ Finset.fold max ⊥ g Finset.univ) ∧ ∃ i, g i = Finset.fold max ⊥ g Finset.univ := by
  have e : Finset.fold max ⊥ g Finset.univ = Finset.univ.sup g := rfl
  rw [e]
  refine ⟨fun i => Finset.le_sup (Finset.mem_univ i), ?_⟩
  obtain ⟨i, _, hi⟩ := Finset.exists_mem_eq_sup Finset.univ Finset.univ_nonempty g
  exact ⟨i, hi.symm⟩

end Cert.Top2

end
-- ==== Proof.KI.Tail.lean ====
/-
  From the lanes' final records to a row's three results: the greatest of the lanes' greatest values is the
  greatest logit; the least number among the lanes that hold it is its earliest place; and the greatest of
  the other lanes' greatest values and the winning lane's second value is the second greatest logit.
-/
module

public import proofs.«01_k».proof.Proof.Top2

@[expose] public section

set_option maxRecDepth 16384

noncomputable section

namespace Cert.KI

open Cert.Top2
open Idealize.ShloMosaic

/-- A fold of the signed minimum from the greatest word is at most each of its words, and is the greatest word or one of them. -/
theorem fold_min_aux (W : Fin 128 → BitVec 32) (s : Finset (Fin 128)) :
    (∀ l ∈ s, (Finset.fold IntOp.minsi 2147483647#32 W s).toInt ≤ (W l).toInt)
    ∧ (Finset.fold IntOp.minsi 2147483647#32 W s = 2147483647#32 ∨ ∃ l, Finset.fold IntOp.minsi 2147483647#32 W s = W l) := by
  classical
  induction s using Finset.induction_on with
  | empty => exact ⟨fun l h => absurd h (Finset.notMem_empty l), .inl rfl⟩
  | insert a s ha ih =>
    obtain ⟨i1, i2⟩ := ih
    rw [Finset.fold_insert ha]
    generalize Finset.fold IntOp.minsi 2147483647#32 W s = q at i1 i2
    unfold IntOp.minsi
    by_cases h : (W a).slt q
    · rw [if_pos h]
      have h' : (W a).toInt < q.toInt := by simpa [BitVec.slt] using h
      refine ⟨fun l hl => ?_, .inr ⟨a, rfl⟩⟩
      rcases Finset.mem_insert.mp hl with rfl | hl
      · exact le_rfl
      · exact h'.le.trans (i1 l hl)
    · rw [if_neg h]
      have h' : q.toInt ≤ (W a).toInt := by simpa [BitVec.slt] using h
      refine ⟨fun l hl => ?_, i2⟩
      rcases Finset.mem_insert.mp hl with rfl | hl
      · exact h'
      · exact i1 l hl

/-- A fold of the signed minimum of words of small numbers is the word of the least. -/
theorem fold_min (W : Fin 128 → BitVec 32) (w : Fin 128 → ℕ) (hW : ∀ l, W l = BitVec.ofNat 32 (w l)) (hw : ∀ l, w l < 2147483647) :
    ∃ l, Finset.fold IntOp.minsi 2147483647#32 W Finset.univ = BitVec.ofNat 32 (w l) ∧ ∀ l', w l ≤ w l' := by
  have hi : ∀ l, (W l).toInt = w l := fun l => by
    rw [hW, BitVec.toInt_eq_toNat_cond, BitVec.toNat_ofNat]
    have := hw l
    have e : w l % 2 ^ 32 = w l := Nat.mod_eq_of_lt (by omega)
    rw [e, if_pos (by omega)]
  obtain ⟨h1, h2⟩ := fold_min_aux W Finset.univ
  rcases h2 with h2 | ⟨l, hl⟩
  · have := h1 0 (Finset.mem_univ _)
    rw [h2, hi] at this
    have e : (2147483647#32 : BitVec 32).toInt = 2147483647 := by decide
    rw [e] at this
    have := hw 0
    omega
  · refine ⟨l, hl.trans (hW l), fun l' => ?_⟩
    have := h1 l' (Finset.mem_univ _)
    rw [hl, hi, hi] at this
    exact_mod_cast this

/-- The number the kernel gives a lane's greatest value is its place in the vocabulary. -/
theorem id_word (v : ℕ → EReal) (l : Fin 128) (h : at1 v 128 < 128) :
    IntOp.addi (IntOp.muli (stIx v 128) 128#32) (BitVec.ofNat 32 l.val) = BitVec.ofNat 32 (128 * at1 v 128 + l.val) := by
  rw [stIx_eq]
  apply BitVec.eq_of_toNat_eq
  have := l.isLt
  simp only [IntOp.addi, IntOp.muli, BitVec.toNat_add, BitVec.toNat_mul, BitVec.toNat_ofNat]
  omega

/-- A row's three results are its logits' greatest, the earliest place of the greatest, and the second greatest. -/
theorem tail (f : Fin 16000 → EReal) (g : Fin 128 → ℕ → EReal)
    (hg : ∀ (l : Fin 128) (n : ℕ), g l n = if h : n < 125 then f ⟨128 * n + l.val, by omega⟩ else ⊥)
    (top S : EReal) (tok : BitVec 32)
    (htop : top = Finset.fold max ⊥ (fun l => stM1 (g l) 128) Finset.univ)
    (htok : tok = Finset.fold IntOp.minsi 2147483647#32 (fun l => if stM1 (g l) 128 = top
      then IntOp.addi (IntOp.muli (stIx (g l) 128) 128#32) (BitVec.ofNat 32 l.val) else 1073741824#32) Finset.univ)
    (hS : S = Finset.fold max ⊥ (fun l : Fin 128 => Scalar.select (IntOp.cmpi .eq
      (IntOp.addi (IntOp.muli (stIx (g l) 128) 128#32) (BitVec.ofNat 32 l.val)) tok) (stM2 (g l) 128) (stM1 (g l) 128)) Finset.univ) :
    ∃ a b, Two f a b ∧ First f a ∧ top = f a ∧ S = f b ∧ tok = BitVec.ofNat 32 a.val := by
  classical
  -- every lane's record, at a place the vocabulary has
  have rec1 := fun l => record1 (g l) 127
  have rec2 := fun l => record2 (g l) 127
  have hat : ∀ l, at1 (g l) 128 < 125 := fun l => by
    by_contra h
    have h0 := (rec1 l).2.2.2 0 (by show 0 < at1 (g l) 128; omega)
    have h1 : g l (at1 (g l) 128) = stM1 (g l) 128 := (rec1 l).2.1
    rw [hg, dif_neg h] at h1
    have h0' : g l 0 < stM1 (g l) 128 := h0
    rw [← h1] at h0'
    exact absurd h0' not_lt_bot
  have hword := fun l => id_word (g l) l (by have := hat l; omega)
  have hplace : ∀ l, f ⟨128 * at1 (g l) 128 + l.val, by have := hat l; omega⟩ = stM1 (g l) 128 := fun l => by
    have h1 : g l (at1 (g l) 128) = stM1 (g l) 128 := (rec1 l).2.1
    rw [hg, dif_pos (hat l)] at h1
    exact h1
  have split : ∀ v : Fin 16000, ∃ (l : Fin 128) (n : ℕ), n < 125 ∧ v.val = 128 * n + l.val ∧ f v = g l n := fun v => by
    refine ⟨⟨v.val % 128, by omega⟩, v.val / 128, by omega, by dsimp only; omega, ?_⟩
    rw [hg, dif_pos (by omega)]
    exact congrArg f (Fin.ext (by dsimp only; omega))
  -- the greatest, and the lane that holds it earliest
  obtain ⟨t1, lt, t2⟩ := fold_max (fun l => stM1 (g l) 128)
  rw [← htop] at t1 t2
  obtain ⟨l₀, m1, m2⟩ := fold_min (fun l => if stM1 (g l) 128 = top
      then IntOp.addi (IntOp.muli (stIx (g l) 128) 128#32) (BitVec.ofNat 32 l.val) else 1073741824#32) (fun l => if stM1 (g l) 128 = top then 128 * at1 (g l) 128 + l.val else 1073741824)
    (fun l => by split_ifs; exacts [hword l, rfl])
    (fun l => by have := hat l; split_ifs <;> omega)
  rw [← htok] at m1
  have hl₀ : stM1 (g l₀) 128 = top := by
    by_contra h
    have := m2 lt
    rw [if_neg h, if_pos t2] at this
    have := hat lt; omega
  rw [if_pos hl₀] at m1
  have m3 : ∀ l', stM1 (g l') 128 = top → 128 * at1 (g l₀) 128 + l₀.val ≤ 128 * at1 (g l') 128 + l'.val := fun l' h => by
    have := m2 l'
    rwa [if_pos hl₀, if_pos h] at this
  have ha : 128 * at1 (g l₀) 128 + l₀.val < 16000 := by have := hat l₀; omega
  have hfa : f ⟨128 * at1 (g l₀) 128 + l₀.val, ha⟩ = top := (hplace l₀).trans hl₀
  have hmax : ∀ v, f v ≤ top := fun v => by
    obtain ⟨l, n, hn, hv, e⟩ := split v
    rw [e]
    exact ((rec1 l).2.2.1 n (by omega)).trans (t1 l)
  -- the second greatest
  have hsel : ∀ l, Scalar.select (IntOp.cmpi .eq
      (IntOp.addi (IntOp.muli (stIx (g l) 128) 128#32) (BitVec.ofNat 32 l.val)) tok) (stM2 (g l) 128) (stM1 (g l) 128)
      = if l = l₀ then stM2 (g l) 128 else stM1 (g l) 128 := fun l => by
    rw [hword l, m1]
    by_cases h : l = l₀
    · subst h
      rw [if_pos rfl]
      simp [IntOp.cmpi, Scalar.select]
    · rw [if_neg h]
      have hne : BitVec.ofNat 32 (128 * at1 (g l) 128 + l.val) ≠ BitVec.ofNat 32 (128 * at1 (g l₀) 128 + l₀.val) := fun e => by
        have e' := congrArg BitVec.toNat e
        simp only [BitVec.toNat_ofNat] at e'
        have := hat l; have := hat l₀
        exact h (Fin.ext (by omega))
      generalize BitVec.ofNat 32 (128 * at1 (g l) 128 + l.val) = p at hne
      generalize BitVec.ofNat 32 (128 * at1 (g l₀) 128 + l₀.val) = q at hne
      have hb : (p == q) = false := beq_eq_false_iff_ne.mpr hne
      simp [IntOp.cmpi, Scalar.select, hb]
  rw [show (fun l : Fin 128 => Scalar.select (IntOp.cmpi .eq
      (IntOp.addi (IntOp.muli (stIx (g l) 128) 128#32) (BitVec.ofNat 32 l.val)) tok) (stM2 (g l) 128) (stM1 (g l) 128))
      = fun l => if l = l₀ then stM2 (g l) 128 else stM1 (g l) 128 from funext hsel] at hS
  obtain ⟨s1, ls, s2⟩ := fold_max (fun l => if l = l₀ then stM2 (g l) 128 else stM1 (g l) 128)
  rw [← hS] at s1 s2
  have hsec : ∀ v : Fin 16000, v ≠ ⟨128 * at1 (g l₀) 128 + l₀.val, ha⟩ → f v ≤ S := fun v hv => by
    obtain ⟨l, n, hn, hv', e⟩ := split v
    rw [e]
    have s1' := s1 l
    by_cases h : l = l₀
    · subst h
      rw [if_pos rfl] at s1'
      exact ((rec2 l).2.1 n (by omega) (fun en => hv (Fin.ext (by dsimp only; rw [hv', en])))).trans s1'
    · rw [if_neg h] at s1'
      exact ((rec1 l).2.2.1 n (by omega)).trans s1'
  have hatt : ∃ b : Fin 16000, b ≠ ⟨128 * at1 (g l₀) 128 + l₀.val, ha⟩ ∧ f b = S := by
    have bot : S = ⊥ → ∃ b : Fin 16000, b ≠ ⟨128 * at1 (g l₀) 128 + l₀.val, ha⟩ ∧ f b = S := fun hb => by
      obtain ⟨b, hb'⟩ := exists_ne (⟨128 * at1 (g l₀) 128 + l₀.val, ha⟩ : Fin 16000)
      exact ⟨b, hb', le_antisymm (hsec b hb') (hb ▸ bot_le)⟩
    by_cases h : ls = l₀
    · rw [if_pos h, h] at s2
      rcases (rec2 l₀).2.2 with r | ⟨k, hk, hne, e⟩
      · exact bot (s2.symm.trans r)
      · have e' : g l₀ k = S := e.trans s2
        by_cases hk' : k < 125
        · rw [hg, dif_pos hk'] at e'
          refine ⟨_, fun eb => hne ?_, e'⟩
          have := congrArg Fin.val eb
          show k = at1 (g l₀) 128
          dsimp only at this
          omega
        · rw [hg, dif_neg hk'] at e'
          exact bot e'.symm
    · rw [if_neg h] at s2
      refine ⟨_, fun eb => h ?_, (hplace ls).trans s2⟩
      have := congrArg Fin.val eb
      dsimp only at this
      exact Fin.ext (by omega)
  obtain ⟨b, hb, eb⟩ := hatt
  refine ⟨⟨128 * at1 (g l₀) 128 + l₀.val, ha⟩, b, ⟨hb.symm, fun v => hfa ▸ hmax v, fun v hv => eb ▸ hsec v hv⟩,
    ⟨fun v => hfa ▸ hmax v, fun v hv => ?_⟩, hfa.symm, eb.symm, m1⟩
  -- earlier places hold less
  rw [hfa]
  refine lt_of_le_of_ne (hmax v) fun e => ?_
  obtain ⟨l, n, hn, hv', e'⟩ := split v
  have hle : g l n ≤ stM1 (g l) 128 := (rec1 l).2.2.1 n (by omega)
  have htie : stM1 (g l) 128 = top := le_antisymm (t1 l) (by rw [← e, e']; exact hle)
  have h3 := m3 l htie
  have hlt : v.val < 128 * at1 (g l₀) 128 + l₀.val := hv
  have h4 : g l n < stM1 (g l) 128 := (rec1 l).2.2.2 n (by show n < at1 (g l) 128; omega)
  rw [htie, ← e, e'] at h4
  exact lt_irrefl _ h4

end Cert.KI

end
-- ==== Proof.KI.Results.lean ====
/-
  The kernel's three results, row by row: the earliest place of the row's greatest logit, the difference of
  the greatest and the second greatest, and the greatest.
-/
module

public import proofs.«01_k».proof.Proof.KI.Sound
public import proofs.«01_k».proof.Proof.KI.Tail
public import Idealize.ShloMosaic.Lib.Pointwise

@[expose] public section

set_option maxRecDepth 16384

noncomputable section

namespace Cert.KI

open Cert.KernelIdeal Cert.KernelIdeal.Gen
open Cert.Top2
open Idealize.ShloMosaic

/-- A row's greatest value over its lanes. -/
theorem pay2_apply (M1 : S192x128.Idx → EReal) (r : Fin 192) :
    k0_pay2 (F := Ideal) M1 (ix2 r 0) = Finset.fold max ⊥ (fun l => M1 (ix2 r l)) Finset.univ := by
  rw [← ofBits_ninf]
  pointwise [k0_pay2]

/-- A row's token: the least number of a lane that holds the greatest value. -/
theorem pay3_apply (M1 : S192x128.Idx → EReal) (L IX : S192x128.Idx → BitVec 32) (r : Fin 192) :
    k0_pay3 (F := Ideal) L M1 IX (ix2 r 0)
      = Finset.fold IntOp.minsi 2147483647#32 (fun l => if M1 (ix2 r l) = k0_pay2 (F := Ideal) M1 (ix2 r 0)
          then IntOp.addi (IntOp.muli (IX (ix2 r l)) 128#32) (L (ix2 r l)) else 1073741824#32) Finset.univ := by
  pointwise [k0_pay3, k0_pay1]

/-- A row's margin: the greatest value less the greatest of the others. -/
theorem pay4_apply (M1 M2 : S192x128.Idx → EReal) (L IX : S192x128.Idx → BitVec 32) (r : Fin 192) :
    k0_pay4 (F := Ideal) L M1 IX M2 (ix2 r 0)
      = k0_pay2 (F := Ideal) M1 (ix2 r 0) - Finset.fold max ⊥ (fun l => Scalar.select (IntOp.cmpi .eq
          (IntOp.addi (IntOp.muli (IX (ix2 r l)) 128#32) (L (ix2 r l))) (k0_pay3 (F := Ideal) L M1 IX (ix2 r 0)))
          (M2 (ix2 r l)) (M1 (ix2 r l))) Finset.univ := by
  rw [← ofBits_ninf]
  pointwise [k0_pay4, k0_pay1]

/-- A lane's number. -/
theorem lanes_apply (r : Fin 192) (l : Fin 128) : lanes (ix2 r l) = BitVec.ofNat 32 l.val := by
  pointwise [lanes]

variable (m : (ℓ : Loc nD τ sig) → Buf (Elt Ideal) ℓ)

/-- The kernel's three results at a row are the earliest place of the greatest of the row's logits, the difference of the
    greatest and the second greatest, and the greatest. -/
theorem results (c : Dev nD) (r : Fin 192) : ∃ a b, Two (Lg (arr0 m c) (arr1 m c) (arr2 m c) r) a b
    ∧ First (Lg (arr0 m c) (arr1 m c) (arr2 m c) r) a
    ∧ oTok m c (ix2 r 0) = BitVec.ofNat 32 a.val
    ∧ oMar m c (ix2 r 0) = Lg (arr0 m c) (arr1 m c) (arr2 m c) r a - Lg (arr0 m c) (arr1 m c) (arr2 m c) r b
    ∧ oTop m c (ix2 r 0) = Lg (arr0 m c) (arr1 m c) (arr2 m c) r a := by
  have h2 : oTop m c (ix2 r 0) = _ := pay2_apply (sM1 m c 128) r
  have h3 : oTok m c (ix2 r 0) = _ := pay3_apply (sM1 m c 128) lanes (sIx m c 128) r
  have h4 : oMar m c (ix2 r 0) = _ := pay4_apply (sM1 m c 128) (sM2 m c 128) lanes (sIx m c 128) r
  have hl : ∀ l : Fin 128, lanes (ix2 r l) = BitVec.ofNat 32 l.val := lanes_apply r
  simp only [hl] at h3 h4
  obtain ⟨a, b, t1, t2, e1, e2, e3⟩ := tail (Lg (arr0 m c) (arr1 m c) (arr2 m c) r) (ln m c r) (fun _ _ => rfl)
    (oTop m c (ix2 r 0)) _ (oTok m c (ix2 r 0)) h2 h3 rfl
  refine ⟨a, b, t1, t2, e3, ?_, e1⟩
  rw [← e1, ← e2]
  exact h4

end Cert.KI

end
-- ==== Proof.Ref.Logits.lean ====
/-
  The reference's logits at an entry are the plain sum over the 7168 places: the two products over
  groups and half groups, put together in the order of the places.
-/
module

public import proofs.«01_k».proof.Proof.Ref.Run
public import proofs.«01_k».proof.Proof.KI.Logits
public import Idealize.ShloMosaic.Lib.TwoAxisContraction
public import Idealize.ShloMosaic.Lib.Pointwise

@[expose] public section

set_option maxRecDepth 16384

noncomputable section

namespace Cert.Ref

open Cert.ReferenceIdeal Cert.ReferenceIdeal.Facts₀
open Idealize.ShloMosaic
open scoped BigOperators

variable (A0 : S192x1x7168.Idx → EReal) (A1 : S16000x3584.Idx → BitVec 8) (A2 : S16000x224.Idx → EReal)

/-- The first half of a group of activations, at an index. -/
theorem xlo_apply (r : Fin 192) (g : Fin 224) (j : Fin 16) :
    (extractStridedSlice S192x1x224x16 ![0, 0, 0, 0] (xg (F := Ideal) A0) slices_S192x1x224x32_S192x1x224x16_0_0_0_0 : S192x1x224x16.Idx → EReal)
      (ix4 r 0 g j) = A0 (ix3 r 0 ⟨g.val * 32 + j.val, by omega⟩) := by
  pointwise [xg]

/-- The second half of a group of activations, at an index. -/
theorem xhi_apply (r : Fin 192) (g : Fin 224) (j : Fin 16) :
    (extractStridedSlice S192x1x224x16 ![0, 0, 0, 16] (xg (F := Ideal) A0) slices_S192x1x224x32_S192x1x224x16_0_0_0_16 : S192x1x224x16.Idx → EReal)
      (ix4 r 0 g j) = A0 (ix3 r 0 ⟨g.val * 32 + (16 + j.val), by omega⟩) := by
  pointwise [xg]

/-- A weight coded by a low half of a byte, at an index. -/
theorem lowW_apply (v : Fin 16000) (g : Fin 224) (j : Fin 16) :
    lowW (F := Ideal) A1 A2 (ix3 v g j)
      = ((KI.nib (A1 (ix2 v ⟨g.val * 16 + j.val, by omega⟩)) 0 : ℝ) : EReal) * A2 (ix2 v g) := by
  rw [← KI.toInt_low]
  pointwise [lowW, words, splat, scales]
  rfl

/-- A weight coded by a high half of a byte, at an index. -/
theorem highW_apply (v : Fin 16000) (g : Fin 224) (j : Fin 16) :
    highW (F := Ideal) A1 A2 (ix3 v g j)
      = ((KI.nib (A1 (ix2 v ⟨g.val * 16 + j.val, by omega⟩)) 1 : ℝ) : EReal) * A2 (ix2 v g) := by
  rw [← KI.toInt_high]
  pointwise [highW, words, splat, scales]
  rfl

/-- The product over groups and half groups, at an index. -/
theorem dot_apply (L : S192x1x224x16.Idx → EReal) (R : S16000x224x16.Idx → EReal) (r : Fin 192) (v : Fin 16000) :
    (Host.dotGeneral (F := Ideal) (φ₁ := .bf16) (φ₂ := .bf16) dot_S192x1x224x16_S16000x224x16_S192x1x16000_23_12_01_0_n_n none L R : S192x1x16000.Idx → EReal) (ix3 r 0 v)
      = ∑ g : Fin 224, ∑ j : Fin 16, L (ix4 r 0 g j) * R (ix3 v g j) := by
  pointwise [dot_S192x1x224x16_S16000x224x16_S192x1x16000_23_12_01_0_n_n]

/-- A sum over the 7168 places, group by group and byte by byte. -/
theorem sum_places (f : Fin 7168 → EReal) :
    ∑ k, f k = ∑ g : Fin 224, ∑ j : Fin 16, (f ⟨g.val * 32 + 2 * j.val, by omega⟩ + f ⟨g.val * 32 + 2 * j.val + 1, by omega⟩) := by
  rw [← Equiv.sum_comp (finProdFinEquiv (m := 224) (n := 32)) f, Fintype.sum_prod_type]
  refine Finset.sum_congr rfl fun g _ => ?_
  rw [← Equiv.sum_comp (finProdFinEquiv (m := 16) (n := 2)) (fun i => f (finProdFinEquiv (m := 224) (n := 32) (g, i))), Fintype.sum_prod_type]
  refine Finset.sum_congr rfl fun j _ => ?_
  rw [Fin.sum_univ_two]
  refine congrArg₂ (· + ·) (congrArg f (Fin.ext ?_)) (congrArg f (Fin.ext ?_))
  · simp only [finProdFinEquiv_apply_val, Fin.val_zero]; omega
  · simp only [finProdFinEquiv_apply_val, Fin.val_one]; omega

/-- The reference's logits are the plain sums. -/
theorem logits_apply (r : Fin 192) (v : Fin 16000) :
    logits (F := Ideal) A0 A1 A2 (ix3 r 0 v) = KI.Lg A0 A1 A2 r v := by
  refine (congrArg₂ (fun a b : EReal => a + b) (dot_apply _ (lowW (F := Ideal) A1 A2) r v) (dot_apply _ (highW (F := Ideal) A1 A2) r v)).trans ?_
  unfold KI.Lg
  rw [sum_places, ← Finset.sum_add_distrib]
  refine Finset.sum_congr rfl fun g _ => ?_
  rw [← Finset.sum_add_distrib]
  refine Finset.sum_congr rfl fun j _ => ?_
  rw [xlo_apply, xhi_apply, lowW_apply, highW_apply]
  unfold KI.wt KI.perm
  have a0 : (⟨g.val * 32 + j.val, by omega⟩ : Fin 7168) = ⟨KI.perm (g.val * 32 + 2 * j.val), by unfold KI.perm; omega⟩ :=
    Fin.ext (by simp only [KI.perm]; omega)
  have a1 : (⟨g.val * 32 + (16 + j.val), by omega⟩ : Fin 7168) = ⟨KI.perm (g.val * 32 + 2 * j.val + 1), by unfold KI.perm; omega⟩ :=
    Fin.ext (by simp only [KI.perm]; omega)
  have b0 : (⟨g.val * 16 + j.val, by omega⟩ : Fin 3584) = ⟨(g.val * 32 + 2 * j.val) / 2, by omega⟩ := Fin.ext (by dsimp only; omega)
  have b1 : (⟨g.val * 16 + j.val, by omega⟩ : Fin 3584) = ⟨(g.val * 32 + 2 * j.val + 1) / 2, by omega⟩ := Fin.ext (by dsimp only; omega)
  have c0 : g = ⟨(g.val * 32 + 2 * j.val) / 32, by omega⟩ := Fin.ext (by dsimp only; omega)
  have c1 : g = ⟨(g.val * 32 + 2 * j.val + 1) / 32, by omega⟩ := Fin.ext (by dsimp only; omega)
  have d0 : (g.val * 32 + 2 * j.val) % 2 = 0 := by omega
  have d1 : (g.val * 32 + 2 * j.val + 1) % 2 = 1 := by omega
  refine congrArg₂ (fun a b : EReal => a + b) ?_ ?_
  · refine congrArg₂ (fun a b : EReal => a * b) (congrArg (fun q => A0 (ix3 r 0 q)) a0) ?_
    refine congrArg₂ (fun a b : EReal => a * b) ?_ (congrArg (fun q => A2 (ix2 v q)) c0)
    dsimp only
    rw [d0]
    exact congrArg (fun q => ((KI.nib (A1 (ix2 v q)) 0 : ℝ) : EReal)) b0
  · refine congrArg₂ (fun a b : EReal => a * b) (congrArg (fun q => A0 (ix3 r 0 q)) a1) ?_
    refine congrArg₂ (fun a b : EReal => a * b) ?_ (congrArg (fun q => A2 (ix2 v q)) c1)
    dsimp only
    rw [d1]
    exact congrArg (fun q => ((KI.nib (A1 (ix2 v q)) 1 : ℝ) : EReal)) b1

end Cert.Ref

end
-- ==== Proof.Ref.Results.lean ====
/-
  The reference's three results, row by row: its two sorted values are the greatest and the second greatest
  logit, and its token is the earliest place of the greatest.
-/
module

public import proofs.«01_k».proof.Proof.Ref.Logits
public import proofs.«01_k».proof.Proof.Top2
public import Idealize.ShloMosaic.Lib.SortFacts

@[expose] public section

set_option maxRecDepth 16384

noncomputable section

namespace Cert.Ref

open Cert.ReferenceIdeal Cert.ReferenceIdeal.Facts₀
open Cert.Top2
open Idealize.ShloMosaic

variable (L : S192x1x16000.Idx → EReal)

/-- A row of logits. -/
def row (r : Fin 192) (v : Fin 16000) : EReal := L (ix3 r 0 v)

/-- One place sorts before another when its logit is greater. -/
def before (r : Fin 192) (k k' : Fin 16000) : Bool := decide (row L r k' < row L r k)

/-- A place of a row, put in place of another. -/
theorem along_row (r : Fin 192) (i k : Fin 16000) : (ix3 r (0 : Fin 1) i : S192x1x16000.Idx).along 2 k = ix3 r 0 k := by
  funext a
  match a with
  | ⟨0, _⟩ => rfl
  | ⟨1, _⟩ => rfl
  | ⟨2, _⟩ => rfl

/-- A row of the sorted logits: the logits at the places of the sorted order. -/
theorem sorted_apply (y : S192x1x16000.Idx → BitVec 32) (r : Fin 192) (q : Fin 16000) :
    (Host.sort2 S192x1x16000 2 (fun l l' : EReal × BitVec 32 => FloatOps.cmpfTotal (F := Ideal) (φ := .f32) .gt l.1 l'.1) L y).1 (ix3 r 0 q)
      = row L r (sortedFrom (before L r) q) := by
  unfold Host.sort2
  rw [dif_pos (by decide)]
  refine (congrArg L (along_row r q _)).trans ?_
  refine congrArg (fun B : Fin 16000 → Fin 16000 → Bool => row L r (sortedFrom B q)) ?_
  funext k k'
  refine (congrArg₂ (fun i i' : S192x1x16000.Idx => (BitVec.ofBool (decide (L i' < L i)) == 1#1)) (along_row r q k) (along_row r q k')).trans ?_
  show (BitVec.ofBool (decide (L (ix3 r 0 k') < L (ix3 r 0 k))) == 1#1) = decide (L (ix3 r 0 k') < L (ix3 r 0 k))
  cases decide (L (ix3 r 0 k') < L (ix3 r 0 k)) <;> rfl

/-- The two sorted values are the logits at the first two places of the sorted order. -/
theorem best2_apply (r : Fin 192) (i : Fin 2) :
    best2 (F := Ideal) L (ix3 r 0 i) = row L r (sortedFrom (before L r) ⟨i.val, by omega⟩) := by
  refine Eq.trans (congrArg (Host.sort2 S192x1x16000 2 (fun l l' : EReal × BitVec 32 => FloatOps.cmpfTotal (F := Ideal) (φ := .f32) .gt l.1 l'.1) L
      (fun j => if hd : 2 < S192x1x16000.rank then iotaInDim S192x1x16000 32 ⟨2, hd⟩ j else 0#32)).1 ?_)
    (sorted_apply L _ r ⟨i.val, by omega⟩)
  funext a
  match a with
  | ⟨0, _⟩ => exact Fin.ext (Nat.zero_add _)
  | ⟨1, _⟩ => rfl
  | ⟨2, _⟩ => exact Fin.ext (Nat.zero_add _)

/-- The greatest logit of a row, read off the sorted values. -/
theorem top_apply (r : Fin 192) : top (F := Ideal) L (ix2 r 0) = row L r (sortedFrom (before L r) 0) := by
  refine Eq.trans ?_ (best2_apply L r 0)
  pointwise [top]

/-- The second greatest logit of a row, read off the sorted values. -/
theorem second_apply (r : Fin 192) : second (F := Ideal) L (ix2 r 0) = row L r (sortedFrom (before L r) 1) := by
  refine Eq.trans ?_ (best2_apply L r 1)
  pointwise [second]

/-- The first two places of the sorted order hold the greatest and the second greatest logit. -/
theorem two (r : Fin 192) : Two (row L r) (sortedFrom (before L r) 0) (sortedFrom (before L r) 1) := by
  have hB : ∀ a b, before L r a b = true → before L r b a = false := fun a b h => by
    simp only [before, decide_eq_true_eq, decide_eq_false_iff_not, not_lt] at h ⊢; exact h.le
  have ord : ∀ i j : Fin 16000, i < j → row L r (sortedFrom (before L r) j) ≤ row L r (sortedFrom (before L r) i) := fun i j h => by
    have := sortedFrom_noInversion (before L r) (before L r) hB (fun _ _ h => h) (fun a b c h1 h2 => by
      simp only [before, decide_eq_false_iff_not, not_lt] at h1 h2 ⊢; exact h1.trans h2) i j h
    simpa only [before, decide_eq_false_iff_not, not_lt] using this
  refine ⟨fun e => ?_, fun v => ?_, fun v hv => ?_⟩
  · exact absurd (sortedFrom_injective _ e) (by decide)
  · obtain ⟨k, rfl⟩ := sortedFrom_surjective (before L r) v
    rcases Nat.eq_zero_or_pos k.val with h | h
    · exact (congrArg (fun q => row L r (sortedFrom (before L r) q)) (Fin.ext h : k = 0)).le
    · exact ord 0 k (by exact h)
  · obtain ⟨k, rfl⟩ := sortedFrom_surjective (before L r) v
    have h0 : k ≠ 0 := fun e => hv (congrArg _ e)
    have h0' : k.val ≠ 0 := fun e => h0 (Fin.ext e)
    by_cases h : k.val = 1
    · exact (congrArg (fun q => row L r (sortedFrom (before L r) q)) (Fin.ext h : k = 1)).le
    · exact ord 1 k (by show 1 < k.val; omega)

/-! ## The token -/

/-- The reducer at a pair of entries, by the order of the extended reals. -/
theorem reducer_apply (x y : EReal) (i j : BitVec 32) :
    reducer_argmax_f32_i32 (F := Ideal) (x, i) (y, j)
      = (if y < x then x else y, if y < x ∨ (x = y ∧ i.slt j) then i else j) := by
  have hb : ∀ p : Prop, [Decidable p] → (BitVec.ofBool (decide p) = 1#1 ↔ p) := fun p _ => by by_cases h : p <;> simp [h]
  have hne : FloatOps.cmpf (F := Ideal) (φ := .f32) .une x x = 0#1 := by
    show Ideal.cmp .une x x = 0#1
    simp [Ideal.cmp]
  have hgt : FloatOps.cmpf (F := Ideal) (φ := .f32) .ogt x y = BitVec.ofBool (decide (y < x)) := rfl
  have heq : FloatOps.cmpf (F := Ideal) (φ := .f32) .oeq x y = BitVec.ofBool (decide (x = y)) := rfl
  unfold reducer_argmax_f32_i32
  dsimp only
  rw [hne, hgt, heq]
  unfold IntOp.cmpi IntOp.ori IntOp.andi Scalar.select
  dsimp only
  by_cases h1 : y < x <;> by_cases h2 : x = y <;> cases h3 : i.slt j <;> simp [h1, h2, h3]

/-- The reducer folded over places in increasing order, from `-inf` and place 0: either every logit met is `-inf` and
    the record is still that, or the record holds the greatest logit met and its earliest place. -/
theorem fold_places (f : Fin 16000 → EReal) (l : List (Fin 16000)) (hl : l.Pairwise (· < ·)) :
    (l.foldl (fun acc v => reducer_argmax_f32_i32 (F := Ideal) acc (f v, BitVec.ofNat 32 v.val)) ((⊥ : EReal), 0#32) = (⊥, 0#32)
      ∧ ∀ v ∈ l, f v = ⊥)
    ∨ ∃ a, l.foldl (fun acc v => reducer_argmax_f32_i32 (F := Ideal) acc (f v, BitVec.ofNat 32 v.val)) ((⊥ : EReal), 0#32) = (f a, BitVec.ofNat 32 a.val)
      ∧ a ∈ l ∧ (∀ v ∈ l, f v ≤ f a) ∧ ∀ v ∈ l, v < a → f v < f a := by
  have hslt : ∀ a b : Fin 16000, (BitVec.ofNat 32 a.val).slt (BitVec.ofNat 32 b.val) = decide (a < b) := fun a b => by
    have ha := a.isLt; have hb := b.isLt
    have e : ∀ c : Fin 16000, (BitVec.ofNat 32 c.val).toInt = c.val := fun c => by
      have := c.isLt
      rw [BitVec.toInt_eq_toNat_cond, BitVec.toNat_ofNat, Nat.mod_eq_of_lt (by omega), if_pos (by omega)]
    unfold BitVec.slt
    rw [e, e]
    simp
  induction l using List.reverseRecOn with
  | nil => exact .inl ⟨rfl, fun v h => absurd h List.not_mem_nil⟩
  | append_singleton l x ih =>
    rw [List.pairwise_append] at hl
    obtain ⟨hl, _, hx⟩ := hl
    have hx' : ∀ v ∈ l, v < x := fun v hv => hx v hv x (List.mem_singleton.mpr rfl)
    rw [List.foldl_append, List.foldl_cons, List.foldl_nil]
    rcases ih hl with ⟨e, hbot⟩ | ⟨a, e, ha, hmax, hfirst⟩
    · rw [e, reducer_apply, if_neg not_lt_bot]
      by_cases h : f x = ⊥
      · refine .inl ⟨Prod.ext h ?_, fun v hv => ?_⟩
        · show (if f x < ⊥ ∨ ((⊥ : EReal) = f x ∧ _) then 0#32 else _) = 0#32
          have hs := hslt 0 x
          have h0 : BitVec.ofNat 32 (0 : Fin 16000).val = 0#32 := rfl
          rw [h0] at hs
          rw [hs]
          by_cases hx0 : (0 : Fin 16000) < x
          · rw [if_pos (.inr ⟨h.symm, decide_eq_true hx0⟩)]
          · rw [if_neg (by rintro (h' | ⟨_, h'⟩); exacts [not_lt_bot h', hx0 (of_decide_eq_true h')])]
            have : x = 0 := Fin.ext (by have : ¬ (0 < x.val) := hx0; show x.val = 0; omega)
            rw [this]; rfl
        · rcases List.mem_append.mp hv with hv | hv
          · exact hbot v hv
          · rw [List.mem_singleton.mp hv]; exact h
      · have hpos : ⊥ < f x := bot_lt_iff_ne_bot.mpr h
        refine .inr ⟨x, Prod.ext rfl ?_, by simp, fun v hv => ?_, fun v hv hlt => ?_⟩
        · exact if_neg (by rintro (h' | ⟨h', _⟩); exacts [not_lt_bot h', h h'.symm])
        · rcases List.mem_append.mp hv with hv | hv
          · rw [hbot v hv]; exact bot_le
          · rw [List.mem_singleton.mp hv]
        · rcases List.mem_append.mp hv with hv | hv
          · rw [hbot v hv]; exact hpos
          · rw [List.mem_singleton.mp hv] at hlt; exact absurd hlt (lt_irrefl _)
    · rw [e, reducer_apply, hslt a x, decide_eq_true (hx' a ha)]
      by_cases h : f a < f x
      · refine .inr ⟨x, Prod.ext (if_neg h.not_gt) ?_, by simp, fun v hv => ?_, fun v hv hlt => ?_⟩
        · exact if_neg (by rintro (h' | ⟨h', _⟩); exacts [h.not_gt h', h.ne h'])
        · rcases List.mem_append.mp hv with hv | hv
          · exact (hmax v hv).trans h.le
          · rw [List.mem_singleton.mp hv]
        · rcases List.mem_append.mp hv with hv | hv
          · exact (hmax v hv).trans_lt h
          · rw [List.mem_singleton.mp hv] at hlt; exact absurd hlt (lt_irrefl _)
      · have hle := not_lt.mp h
        refine .inr ⟨a, Prod.ext ?_ ?_, List.mem_append_left _ ha, fun v hv => ?_, fun v hv hlt => ?_⟩
        · show (if f x < f a then f a else f x) = f a
          split_ifs with h'
          · rfl
          · exact le_antisymm hle (not_lt.mp h')
        · refine if_pos ?_
          rcases hle.lt_or_eq with h' | h'
          · exact .inl h'
          · exact .inr ⟨h'.symm, rfl⟩
        · rcases List.mem_append.mp hv with hv | hv
          · exact hmax v hv
          · rw [List.mem_singleton.mp hv]; exact hle
        · rcases List.mem_append.mp hv with hv | hv
          · exact hfirst v hv hlt
          · rw [List.mem_singleton.mp hv] at hlt; exact absurd hlt (hx' a ha).not_gt

section Fiber

variable {S T U : Shape} {axes : List (Fin S.rank)}

/-- The elements of the array `S` that a reduction gathers into the element `j`, in its order. -/
def gathered (h : S.ReducesTo axes T) (j : T.Idx) : List (Fin S.numel) :=
  (List.finRange S.numel).filter fun n => h.drop (S.rowMajor.symm n) = j

/-- An element is gathered into `j` when dropping its reduced coordinates leaves `j`. -/
theorem mem_gathered (h : S.ReducesTo axes T) (j : T.Idx) (n : Fin S.numel) :
    n ∈ gathered h j ↔ h.drop (S.rowMajor.symm n) = j := by
  simp [gathered]

/-- The elements are gathered in increasing order. -/
theorem gathered_lt (h : S.ReducesTo axes T) (j : T.Idx) : (gathered h j).Pairwise (· < ·) :=
  (List.pairwise_lt_finRange _).filter _

/-- A reduction of pairs is the fold of the gathered elements' pairs. -/
theorem reduce2_eq {α β : Type} (f : α × β → α × β → α × β) (x : S.Idx → α) (y : S.Idx → β) (ix : U.Idx → α) (iy : U.Idx → β)
    (h : S.ReducesTo axes T) (hu : 0 < U.numel) (j : T.Idx) :
    Host.reduce2 f x y ix iy h hu j
      = (gathered h j).foldl (fun r n => f r (x (S.rowMajor.symm n), y (S.rowMajor.symm n)))
          (ix (Shape.Idx.first hu), iy (Shape.Idx.first hu)) := rfl

/-- The place an arg-max reduction of extended reals ends with, as the fold over the gathered elements. -/
theorem argReduce_eq (f : EReal × BitVec 32 → EReal × BitVec 32 → EReal × BitVec 32) (x : S.Idx → EReal) (y : S.Idx → BitVec 32)
    (ix : U.Idx → EReal) (iy : U.Idx → BitVec 32) (h : S.ReducesTo axes T) (hu : 0 < U.numel) (j : T.Idx)
    (s : EReal × BitVec 32) (hs : (ix (Shape.Idx.first hu), iy (Shape.Idx.first hu)) = s) (l : List (Fin S.numel)) (hl : gathered h j = l) :
    (Host.argReduce (F := Ideal) (φ := .f32) f x y ix iy h hu j).2
      = (l.foldl (fun r n => f r (x (S.rowMajor.symm n), y (S.rowMajor.symm n))) s).2 := by
  subst hs hl
  exact congrArg Prod.snd ((congrFun (Ideal.argReduce_eq_reduce2 (φ := .f32) f x y ix iy h hu) j).trans (reduce2_eq f x y ix iy h hu j))

end Fiber

/-- The places of row `r` in the order of the reduction. -/
def rowPlaces (r : Fin 192) : List (Fin S192x1x16000.numel) :=
  gathered (reducesTo_S192x1x16000_S192x1_d2 : S192x1x16000.ReducesTo [2] S192x1) (ix2 r 0)

/-- The last coordinate of the element at place `n` of the whole array. -/
def lastOf (n : Fin S192x1x16000.numel) : Fin 16000 := S192x1x16000.rowMajor.symm n 2

/-- An element of row `r` is that of its last coordinate. -/
theorem rowPlaces_idx (r : Fin 192) (n : Fin S192x1x16000.numel) (h : n ∈ rowPlaces r) :
    S192x1x16000.rowMajor.symm n = ix3 r 0 (lastOf n) := by
  have h' := (mem_gathered _ _ _).mp h
  obtain ⟨k, hk⟩ := (Shape.ReducesTo.fiber_r3_a2 reducesTo_S192x1x16000_S192x1_d2 (ix2 r 0) _).mp h'
  unfold lastOf
  rw [← hk]
  rfl

/-- The last coordinates of row `r`, in the order of the reduction, increase. -/
theorem rowPlaces_lt (r : Fin 192) : ((rowPlaces r).map lastOf).Pairwise (· < ·) := by
  rw [List.pairwise_map]
  refine List.Pairwise.imp_of_mem (R := (· < ·)) ?_ (gathered_lt _ _)
  intro n n' hn hn' hlt
  have hv : ∀ n, n ∈ rowPlaces r → n.val = r.val * 16000 + (lastOf n).val := fun n hn => by
    have e := congrArg (fun i => (S192x1x16000.rowMajor i).val) (rowPlaces_idx r n hn)
    rw [Equiv.apply_symm_apply] at e
    refine e.trans ((rowMajor_val3 _ 16000 16000 rfl rfl).trans ?_)
    show r.val * 16000 + 0 * 16000 + _ = _
    rw [Nat.zero_mul, Nat.add_zero]
    rfl
  have h1 := hv n hn
  have h2 := hv n' hn'
  have h3 : n.val < n'.val := hlt
  show (lastOf n).val < (lastOf n').val
  omega

/-- Every place of the vocabulary is met in row `r`. -/
theorem rowPlaces_mem (r : Fin 192) (v : Fin 16000) : v ∈ (rowPlaces r).map lastOf := by
  refine List.mem_map.mpr ⟨S192x1x16000.rowMajor (ix3 r 0 v), (mem_gathered _ _ _).mpr ?_, ?_⟩
  · rw [Equiv.symm_apply_apply]
    exact (Shape.ReducesTo.fiber_r3_a2 reducesTo_S192x1x16000_S192x1_d2 (ix2 r 0) _).mpr ⟨v, rfl⟩
  · unfold lastOf; rw [Equiv.symm_apply_apply]; rfl

/-- A fold over the places of row `r` is the fold over their last coordinates. -/
theorem fold_row (r : Fin 192) (s : EReal × BitVec 32) (l : List (Fin S192x1x16000.numel)) (hl : ∀ n ∈ l, n ∈ rowPlaces r) :
    l.foldl (fun acc n => reducer_argmax_f32_i32 (F := Ideal) acc
        (L (S192x1x16000.rowMajor.symm n), iotaInDim S192x1x16000 32 2 (S192x1x16000.rowMajor.symm n))) s
      = (l.map lastOf).foldl
        (fun acc v => reducer_argmax_f32_i32 (F := Ideal) acc (row L r v, BitVec.ofNat 32 v.val)) s := by
  induction l generalizing s with
  | nil => rfl
  | cons n l ih =>
    rw [List.foldl_cons, List.map_cons, List.foldl_cons, ih _ fun m hm => hl m (List.mem_cons_of_mem _ hm)]
    have e : L (S192x1x16000.rowMajor.symm n) = row L r (lastOf n) :=
      congrArg L (rowPlaces_idx r n (hl n List.mem_cons_self))
    rw [e]
    rfl

/-- The reduction starts from `-∞` at place zero. -/
theorem start_eq : (constant (F := Ideal) S_ .f32 0xFF800000#32 (Shape.Idx.first h_S_), constantI S_ 32 0#32 (Shape.Idx.first h_S_))
    = ((⊥ : EReal), 0#32) := Prod.ext KI.ofBits_ninf rfl

/-- The reduction at row `r` is the fold over the row's places. -/
theorem reduction_apply (r : Fin 192) :
    (Host.argReduce (F := Ideal) (φ := .f32) (reducer_argmax_f32_i32 (F := Ideal)) L (iotaInDim S192x1x16000 32 2)
      (constant (F := Ideal) S_ .f32 0xFF800000#32) (constantI S_ 32 0#32) reducesTo_S192x1x16000_S192x1_d2 h_S_ (ix2 r 0)).2
    = ((rowPlaces r).foldl (fun acc n => reducer_argmax_f32_i32 (F := Ideal) acc
        (L (S192x1x16000.rowMajor.symm n), iotaInDim S192x1x16000 32 2 (S192x1x16000.rowMajor.symm n))) ((⊥ : EReal), 0#32)).2 :=
  argReduce_eq (reducer_argmax_f32_i32 (F := Ideal)) L (iotaInDim S192x1x16000 32 2) _ _
    reducesTo_S192x1x16000_S192x1_d2 h_S_ (ix2 r 0) _ start_eq (rowPlaces r) rfl

/-- The token is the second component of the reduction. -/
theorem token_def : token (F := Ideal) L = fun j =>
    (Host.argReduce (F := Ideal) (φ := .f32) (reducer_argmax_f32_i32 (F := Ideal)) L (iotaInDim S192x1x16000 32 2)
      (constant (F := Ideal) S_ .f32 0xFF800000#32) (constantI S_ 32 0#32) reducesTo_S192x1x16000_S192x1_d2 h_S_ j).2 := by
  delta token
  with_reducible rfl

/-- What the reduction holds at row `r`, the token holds. -/
theorem token_of (r : Fin 192) (x : BitVec 32)
    (h : (Host.argReduce (F := Ideal) (φ := .f32) (reducer_argmax_f32_i32 (F := Ideal)) L (iotaInDim S192x1x16000 32 2)
      (constant (F := Ideal) S_ .f32 0xFF800000#32) (constantI S_ 32 0#32) reducesTo_S192x1x16000_S192x1_d2 h_S_ (ix2 r 0)).2 = x) :
    token (F := Ideal) L (ix2 r 0) = x := (congrFun (token_def L) (ix2 r 0)).trans h

/-- The token of row `r` is the fold over the row's last coordinates. -/
theorem token_fold (r : Fin 192) : token (F := Ideal) L (ix2 r 0) = (((rowPlaces r).map lastOf).foldl
    (fun acc v => reducer_argmax_f32_i32 (F := Ideal) acc (row L r v, BitVec.ofNat 32 v.val)) ((⊥ : EReal), 0#32)).2 :=
  token_of L r _ ((reduction_apply L r).trans (congrArg Prod.snd (fold_row L r _ _ fun _ h => h)))

/-- The reference's token is the earliest place of the greatest logit. -/
theorem token_apply (r : Fin 192) : ∃ a, First (row L r) a ∧ token (F := Ideal) L (ix2 r 0) = BitVec.ofNat 32 a.val := by
  rw [token_fold]
  rcases fold_places (row L r) _ (rowPlaces_lt r) with ⟨e, h⟩ | ⟨a, e, _, h1, h2⟩
  · refine ⟨0, ⟨fun v => ?_, fun v hv => absurd hv (Nat.not_lt_zero _)⟩, ?_⟩
    · rw [h v (rowPlaces_mem r v)]; exact bot_le
    · rw [e]; rfl
  · exact ⟨a, ⟨fun v => h1 v (rowPlaces_mem r v), fun v hv => h2 v (rowPlaces_mem r v) hv⟩, by rw [e]⟩

end Cert.Ref

end
-- ==== Proof.Algebraic.lean ====
/-
  The kernel and the reference, over the extended reals, end with the same token, the same margin and the same
  greatest logit in every row.
-/
module

public import proofs.«01_k».proof.Defs
public import proofs.«01_k».proof.Proof.KI.Final
public import proofs.«01_k».proof.Proof.KI.Results
public import proofs.«01_k».proof.Proof.Ref.Results

@[expose] public section

set_option maxRecDepth 16384

noncomputable section

namespace Cert.Algebraic

open Cert.Top2
open Idealize.ShloMosaic Idealize.SL.Sem

section Row

variable (L : Cert.ReferenceIdeal.S192x1x16000.Idx → EReal) (r : Fin 192) {a b : Fin 16000}

/-- The reference's token of a row is the earliest place of the row's greatest logit. -/
theorem token_row (h : First (Ref.row L r) a) : Ref.token (F := Ideal) L (ix2 r 0) = BitVec.ofNat 32 a.val := by
  obtain ⟨a', h', e⟩ := Ref.token_apply L r
  rw [e, First.unique h h']

/-- The reference's greatest logit of a row. -/
theorem top_row (h : Two (Ref.row L r) a b) : Ref.top (F := Ideal) L (ix2 r 0) = Ref.row L r a :=
  (Ref.top_apply L r).trans (Two.top_unique (Ref.two L r) h)

/-- The reference's second greatest logit of a row. -/
theorem second_row (h : Two (Ref.row L r) a b) : Ref.second (F := Ideal) L (ix2 r 0) = Ref.row L r b :=
  (Ref.second_apply L r).trans (Two.second_unique (Ref.two L r) h)

end Row

/-- A position of a result is a row and the one column. -/
theorem idx_row (y : Cert.KernelIdeal.S192x1.Idx) : ∃ r : Fin 192, y = ix2 r (0 : Fin 1) := by
  refine ⟨y 0, ?_⟩
  funext k
  match k with
  | ⟨0, _⟩ => rfl
  | ⟨1, _⟩ => exact Fin.ext (Nat.lt_one_iff.mp (y 1).isLt)

section Agree

variable (m : (ℓ : Loc Cert.KernelIdeal.nD Cert.KernelIdeal.τ Cert.KernelIdeal.sig) → Buf (Elt Ideal) ℓ) (c : Dev Cert.KernelIdeal.nD)

/-- The reference's logits from the kernel's arguments. -/
def logitsOf : Cert.ReferenceIdeal.S192x1x16000.Idx → EReal :=
  Ref.logits (F := Ideal) (KI.arr0 m c) (KI.arr1 m c) (KI.arr2 m c)

/-- A row of the reference's logits is the row the kernel reduces. -/
theorem row_logitsOf (r : Fin 192) : Ref.row (logitsOf m c) r = KI.Lg (KI.arr0 m c) (KI.arr1 m c) (KI.arr2 m c) r :=
  funext fun v => Ref.logits_apply _ _ _ r v

/-- The tokens agree. -/
theorem token_agree : Ref.token (F := Ideal) (logitsOf m c) = KI.oTok m c := by
  funext y
  obtain ⟨r, rfl⟩ := idx_row y
  obtain ⟨a, b, _, t, e, _, _⟩ := KI.results m c r
  rw [← row_logitsOf] at t
  exact (token_row _ r t).trans e.symm

/-- The greatest logits agree. -/
theorem top_agree : Ref.top (F := Ideal) (logitsOf m c) = KI.oTop m c := by
  funext y
  obtain ⟨r, rfl⟩ := idx_row y
  obtain ⟨a, b, t, _, _, _, e⟩ := KI.results m c r
  rw [← row_logitsOf] at t e
  exact (top_row _ r t).trans e.symm

/-- The margins agree. -/
theorem margin_agree : subf (F := Ideal) (φ := .f32) (Ref.top (F := Ideal) (logitsOf m c)) (Ref.second (F := Ideal) (logitsOf m c))
    = KI.oMar m c := by
  funext y
  obtain ⟨r, rfl⟩ := idx_row y
  obtain ⟨a, b, t, _, _, e, _⟩ := KI.results m c r
  rw [← row_logitsOf] at t e
  exact (congrArg₂ (fun x y : EReal => x - y) (top_row _ r t) (second_row _ r t)).trans e.symm

end Agree

open Cert.Ref in
/-- From memories that agree on the arguments, the kernel and the reference both end, with equal results and with
    their arguments unchanged. -/
theorem algebraic : algebraic_KernelIdeal_ReferenceIdeal
    (hKernelIdeal := Cert.KernelIdeal.Gen.facts) (hReferenceIdeal := Cert.Ref.facts) := by
  intro m g m' g' _ hagree
  refine ⟨fun c => KI.oTok m c, fun c => KI.oMar m c, fun c => KI.oTop m c, ?_, ?_⟩
  · exact (θ_run Cert.KernelIdeal.defs _ _).mono
      (fun _ h c => ⟨(h c).1.1, (h c).1.2.1, (h c).1.2.2, (h c).2⟩) (KI.run_values m g)
  · refine (θ_run Cert.ReferenceIdeal.defs _ _).mono (fun _ h c => ?_) (Ref.run_values (F := Ideal) m' g')
    obtain ⟨e0, e1, e2⟩ := hagree c
    obtain ⟨h0, h1, h2, h3⟩ := h c
    rw [e0, e1, e2] at h0 h1 h2
    exact ⟨h0.trans (token_agree m c), h1.trans (margin_agree m c), h2.trans (top_agree m c), h3⟩

end Cert.Algebraic

end
-- ==== Proof.lean ====
/-
  The proof of the claim: the kernel, its idealization and the reference's idealization terminate with their
  arguments unchanged; the idealization's rules hold; and over the extended reals the kernel computes the
  reference's three results.
-/
module

public import proofs.«01_k».proof.Defs
public import proofs.«01_k».proof.Proof.Gen.Kernel
public import proofs.«01_k».proof.Proof.Gen.KernelIdeal
public import proofs.«01_k».proof.Proof.K.Frame
public import proofs.«01_k».proof.Proof.KI.Final
public import proofs.«01_k».proof.Proof.Ref.Run
public import proofs.«01_k».proof.Proof.Preserves
public import proofs.«01_k».proof.Proof.Algebraic

@[expose] public section

noncomputable section

namespace Cert.Proof

open Idealize.ShloMosaic Idealize.SL.Sem

/-- Everything claimed of the kernel and the reference. -/
theorem claim : Cert.Claim :=
  ⟨Cert.Kernel.Gen.facts, Cert.KernelIdeal.Gen.facts, Cert.Ref.facts, fun m ρ _ => Cert.K.frame m ρ,
    fun m ρ _ => Cert.KI.frame m ρ, fun m ρ _ => Cert.Ref.frame m ρ, Cert.Preserves.preserves, Cert.Algebraic.algebraic⟩

end Cert.Proof

end
